-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x768 : Shape := ⟨3, ![6, 256, 768]⟩
abbrev S6x1280x384 : Shape := ⟨3, ![6, 1280, 384]⟩
abbrev S6x256x12 : Shape := ⟨3, ![6, 256, 12]⟩
abbrev S10x768x384 : Shape := ⟨3, ![10, 768, 384]⟩
abbrev S384 : Shape := ⟨1, ![384]⟩
abbrev S1x384 : Shape := ⟨2, ![1, 384]⟩
abbrev S30x1536x128 : Shape := ⟨3, ![30, 1536, 128]⟩
abbrev S30x768x128 : Shape := ⟨3, ![30, 768, 128]⟩
abbrev S768x1536 : Shape := ⟨2, ![768, 1536]⟩
abbrev S1288x128 : Shape := ⟨2, ![1288, 128]⟩
abbrev S1x768x128 : Shape := ⟨3, ![1, 768, 128]⟩
abbrev S768x128 : Shape := ⟨2, ![768, 128]⟩
abbrev S1x128 : Shape := ⟨2, ![1, 128]⟩
abbrev S8x128 : Shape := ⟨2, ![8, 128]⟩
abbrev S256x128 : Shape := ⟨2, ![256, 128]⟩
abbrev S1x256x768 : Shape := ⟨3, ![1, 256, 768]⟩
abbrev S256x768 : Shape := ⟨2, ![256, 768]⟩
abbrev S768x256 : Shape := ⟨2, ![768, 256]⟩
abbrev S1x1280x128 : Shape := ⟨3, ![1, 1280, 128]⟩
abbrev S1280x128 : Shape := ⟨2, ![1280, 128]⟩
abbrev S1x256x1 : Shape := ⟨3, ![1, 256, 1]⟩
abbrev S256x1 : Shape := ⟨2, ![256, 1]⟩
abbrev S256x32 : Shape := ⟨2, ![256, 32]⟩
abbrev S1x256x128 : Shape := ⟨3, ![1, 256, 128]⟩
abbrev S256x3840 : Shape := ⟨2, ![256, 3840]⟩
abbrev S768x3840 : Shape := ⟨2, ![768, 3840]⟩
abbrev S1x1536x128 : Shape := ⟨3, ![1, 1536, 128]⟩
abbrev S1536x128 : Shape := ⟨2, ![1536, 128]⟩
abbrev S1536x256 : Shape := ⟨2, ![1536, 256]⟩

abbrev nBuf : Space → Nat
  | .hbm => 8
  | .vmem => 11
  | .smem => 0
  | _ => 0

abbrev bufTy : (tb : Table) → Fin (tcTables nBuf tb) → BufTy
  | .hbm, ⟨0, _⟩ => ⟨S6x256x768, .bf16⟩
  | .hbm, ⟨1, _⟩ => ⟨S6x1280x384, .fp8e5m2⟩
  | .hbm, ⟨2, _⟩ => ⟨S6x256x12, .f32⟩
  | .hbm, ⟨3, _⟩ => ⟨S10x768x384, .fp8e4m3⟩
  | .hbm, ⟨4, _⟩ => ⟨S384, .f32⟩
  | .hbm, ⟨5, _⟩ => ⟨S1x384, .f32⟩
  | .hbm, ⟨6, _⟩ => ⟨S6x256x768, .bf16⟩
  | .hbm, ⟨7, _⟩ => ⟨S10x768x384, .f32⟩
  | .local _ .vmem, ⟨0, _⟩ => ⟨S6x256x768, .bf16⟩
  | .local _ .vmem, ⟨1, _⟩ => ⟨S6x1280x384, .fp8e5m2⟩
  | .local _ .vmem, ⟨2, _⟩ => ⟨S6x256x12, .f32⟩
  | .local _ .vmem, ⟨3, _⟩ => ⟨S10x768x384, .fp8e4m3⟩
  | .local _ .vmem, ⟨4, _⟩ => ⟨S1x384, .f32⟩
  | .local _ .vmem, ⟨5, _⟩ => ⟨S6x256x768, .bf16⟩
  | .local _ .vmem, ⟨6, _⟩ => ⟨S10x768x384, .f32⟩
  | .local _ .vmem, ⟨7, _⟩ => ⟨S30x1536x128, .bf16⟩
  | .local _ .vmem, ⟨8, _⟩ => ⟨S30x768x128, .bf16⟩
  | .local _ .vmem, ⟨9, _⟩ => ⟨S768x1536, .bf16⟩
  | .local _ .vmem, ⟨10, _⟩ => ⟨S1288x128, .f32⟩
  | _, _ => ⟨S6x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v280 : BitVec 32 := Scalar.addi c0_i32 c6_i32
  let c1_i32 : BitVec 32 := 1#32
  ⟨c0_i32, v280, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v506 : Index := Scalar.indexCast arg11
  let c0_377 : Index := 0#32
  let c0_378 : Index := 0#32
  ![v506.toNat, 0, 0]
def k0_off2 (k0_t1 : Fin k0_t1_loop.trips) : Fin 2 → Nat :=
  let c0_379 : Index := 0#32
  let c0_i32 : BitVec 32 := 0#32
  let c1_i32 : BitVec 32 := 1#32
  let arg11 : BitVec 32 := Scf.iv c0_i32 c1_i32 k0_t1
  let c256_i32 : BitVec 32 := 256#32
  let v510 : BitVec 32 := Scalar.muli arg11 c256_i32
  let v511 : Index := Scalar.indexCast v510
  ![0, v511.toNat]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v515 : Index := Scalar.indexCast arg11
  let c0_380 : Index := 0#32
  let c0_381 : Index := 0#32
  ![v515.toNat, 0, 0]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let v522 : Index := Scalar.indexCast arg11
  let c0_384 : Index := 0#32
  let c0_385 : Index := 0#32
  ![v522.toNat, 0, 0]
def k0_off5 (k0_t1 : Fin k0_t1_loop.trips) : Fin 3 → Nat :=
  let c0_i32 : BitVec 32 := 0#32
  let c1_i32 : BitVec 32 := 1#32
  let arg11 : BitVec 32 := Scf.iv c0_i32 c1_i32 k0_t1
  let v527 : Index := Scalar.indexCast arg11
  let c0_386 : Index := 0#32
  let c1_387 : Index := 1#32
  ![v527.toNat, 0, 1]
def k0_off6 (k0_t1 : Fin k0_t1_loop.trips) : Fin 3 → Nat :=
  let c0_i32 : BitVec 32 := 0#32
  let c1_i32 : BitVec 32 := 1#32
  let arg11 : BitVec 32 := Scf.iv c0_i32 c1_i32 k0_t1
  let v532 : Index := Scalar.indexCast arg11
  let c0_388 : Index := 0#32
  let c2_389 : Index := 2#32
  ![v532.toNat, 0, 2]
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let v537 : Index := Scalar.indexCast arg11
  let c0_390 : Index := 0#32
  let c3_391 : Index := 3#32
  ![v537.toNat, 0, 3]
def k0_off8 (k0_t1 : Fin k0_t1_loop.trips) : Fin 3 → Nat :=
  let c0_399 : Index := 0#32
  let c0_i32 : BitVec 32 := 0#32
  let c1_i32 : BitVec 32 := 1#32
  let arg11 : BitVec 32 := Scf.iv c0_i32 c1_i32 k0_t1
  let c256_i32_398 : BitVec 32 := 256#32
  let v553 : BitVec 32 := Scalar.muli arg11 c256_i32_398
  let v554 : Index := Scalar.indexCast v553
  let c0_400 : Index := 0#32
  ![0, v554.toNat, 0]
def k0_off9 (k0_t1 : Fin k0_t1_loop.trips) : Fin 3 → Nat :=
  let c5_402 : Index := 5#32
  let c0_i32 : BitVec 32 := 0#32
  let c1_i32 : BitVec 32 := 1#32
  let arg11 : BitVec 32 := Scf.iv c0_i32 c1_i32 k0_t1
  let c256_i32_401 : BitVec 32 := 256#32
  let v559 : BitVec 32 := Scalar.muli arg11 c256_i32_401
  let v560 : Index := Scalar.indexCast v559
  let c0_403 : Index := 0#32
  ![5, v560.toNat, 0]
def k0_off10 (k0_t1 : Fin k0_t1_loop.trips) : Fin 3 → Nat :=
  let c1_409 : Index := 1#32
  let c0_i32 : BitVec 32 := 0#32
  let c1_i32 : BitVec 32 := 1#32
  let arg11 : BitVec 32 := Scf.iv c0_i32 c1_i32 k0_t1
  let c256_i32_408 : BitVec 32 := 256#32
  let v569 : BitVec 32 := Scalar.muli arg11 c256_i32_408
  let v570 : Index := Scalar.indexCast v569
  let c0_410 : Index := 0#32
  ![1, v570.toNat, 0]
def k0_off11 (k0_t1 : Fin k0_t1_loop.trips) : Fin 3 → Nat :=
  let c6_412 : Index := 6#32
  let c0_i32 : BitVec 32 := 0#32
  let c1_i32 : BitVec 32 := 1#32
  let arg11 : BitVec 32 := Scf.iv c0_i32 c1_i32 k0_t1
  let c256_i32_411 : BitVec 32 := 256#32
  let v575 : BitVec 32 := Scalar.muli arg11 c256_i32_411
  let v576 : Index := Scalar.indexCast v575
  let c0_413 : Index := 0#32
  ![6, v576.toNat, 0]
def k0_off12 (k0_t1 : Fin k0_t1_loop.trips) : Fin 3 → Nat :=
  let c2_419 : Index := 2#32
  let c0_i32 : BitVec 32 := 0#32
  let c1_i32 : BitVec 32 := 1#32
  let arg11 : BitVec 32 := Scf.iv c0_i32 c1_i32 k0_t1
  let c256_i32_418 : BitVec 32 := 256#32
  let v585 : BitVec 32 := Scalar.muli arg11 c256_i32_418
  let v586 : Index := Scalar.indexCast v585
  let c0_420 : Index := 0#32
  ![2, v586.toNat, 0]
def k0_off13 (k0_t1 : Fin k0_t1_loop.trips) : Fin 3 → Nat :=
  let c7_422 : Index := 7#32
  let c0_i32 : BitVec 32 := 0#32
  let c1_i32 : BitVec 32 := 1#32
  let arg11 : BitVec 32 := Scf.iv c0_i32 c1_i32 k0_t1
  let c256_i32_421 : BitVec 32 := 256#32
  let v591 : BitVec 32 := Scalar.muli arg11 c256_i32_421
  let v592 : Index := Scalar.indexCast v591
  let c0_423 : Index := 0#32
  ![7, v592.toNat, 0]
def k0_off14 (k0_t1 : Fin k0_t1_loop.trips) : Fin 3 → Nat :=
  let c3_429 : Index := 3#32
  let c0_i32 : BitVec 32 := 0#32
  let c1_i32 : BitVec 32 := 1#32
  let arg11 : BitVec 32 := Scf.iv c0_i32 c1_i32 k0_t1
  let c256_i32_428 : BitVec 32 := 256#32
  let v601 : BitVec 32 := Scalar.muli arg11 c256_i32_428
  let v602 : Index := Scalar.indexCast v601
  let c0_430 : Index := 0#32
  ![3, v602.toNat, 0]
def k0_off15 (k0_t1 : Fin k0_t1_loop.trips) : Fin 3 → Nat :=
  let c8_432 : Index := 8#32
  let c0_i32 : BitVec 32 := 0#32
  let c1_i32 : BitVec 32 := 1#32
  let arg11 : BitVec 32 := Scf.iv c0_i32 c1_i32 k0_t1
  let c256_i32_431 : BitVec 32 := 256#32
  let v607 : BitVec 32 := Scalar.muli arg11 c256_i32_431
  let v608 : Index := Scalar.indexCast v607
  let c0_433 : Index := 0#32
  ![8, v608.toNat, 0]
def k0_off16 (k0_t1 : Fin k0_t1_loop.trips) : Fin 3 → Nat :=
  let c4_439 : Index := 4#32
  let c0_i32 : BitVec 32 := 0#32
  let c1_i32 : BitVec 32 := 1#32
  let arg11 : BitVec 32 := Scf.iv c0_i32 c1_i32 k0_t1
  let c256_i32_438 : BitVec 32 := 256#32
  let v617 : BitVec 32 := Scalar.muli arg11 c256_i32_438
  let v618 : Index := Scalar.indexCast v617
  let c0_440 : Index := 0#32
  ![4, v618.toNat, 0]
def k0_off17 (k0_t1 : Fin k0_t1_loop.trips) : Fin 3 → Nat :=
  let c9_442 : Index := 9#32
  let c0_i32 : BitVec 32 := 0#32
  let c1_i32 : BitVec 32 := 1#32
  let arg11 : BitVec 32 := Scf.iv c0_i32 c1_i32 k0_t1
  let c256_i32_441 : BitVec 32 := 256#32
  let v623 : BitVec 32 := Scalar.muli arg11 c256_i32_441
  let v624 : Index := Scalar.indexCast v623
  let c0_443 : Index := 0#32
  ![9, v624.toNat, 0]
def k0_off18 (k0_t1 : Fin k0_t1_loop.trips) : Fin 3 → Nat :=
  let c0_i32 : BitVec 32 := 0#32
  let c1_i32 : BitVec 32 := 1#32
  let arg11 : BitVec 32 := Scf.iv c0_i32 c1_i32 k0_t1
  let v628 : Index := Scalar.indexCast arg11
  let c0_444 : Index := 0#32
  let c128_445 : Index := 128#32
  ![v628.toNat, 0, 128]
def k0_off19 (k0_t1 : Fin k0_t1_loop.trips) : Fin 3 → Nat :=
  let c0_i32 : BitVec 32 := 0#32
  let c1_i32 : BitVec 32 := 1#32
  let arg11 : BitVec 32 := Scf.iv c0_i32 c1_i32 k0_t1
  let v635 : Index := Scalar.indexCast arg11
  let c0_448 : Index := 0#32
  let c4_449 : Index := 4#32
  ![v635.toNat, 0, 4]
def k0_off20 (k0_t1 : Fin k0_t1_loop.trips) : Fin 3 → Nat :=
  let c0_i32 : BitVec 32 := 0#32
  let c1_i32 : BitVec 32 := 1#32
  let arg11 : BitVec 32 := Scf.iv c0_i32 c1_i32 k0_t1
  let v640 : Index := Scalar.indexCast arg11
  let c0_450 : Index := 0#32
  let c5_451 : Index := 5#32
  ![v640.toNat, 0, 5]
def k0_off21 (k0_t1 : Fin k0_t1_loop.trips) : Fin 3 → Nat :=
  let c0_i32 : BitVec 32 := 0#32
  let c1_i32 : BitVec 32 := 1#32
  let arg11 : BitVec 32 := Scf.iv c0_i32 c1_i32 k0_t1
  let v645 : Index := Scalar.indexCast arg11
  let c0_452 : Index := 0#32
  let c6_453 : Index := 6#32
  ![v645.toNat, 0, 6]
def k0_off22 (k0_t1 : Fin k0_t1_loop.trips) : Fin 3 → Nat :=
  let c0_i32 : BitVec 32 := 0#32
  let c1_i32 : BitVec 32 := 1#32
  let arg11 : BitVec 32 := Scf.iv c0_i32 c1_i32 k0_t1
  let v650 : Index := Scalar.indexCast arg11
  let c0_454 : Index := 0#32
  let c7_455 : Index := 7#32
  ![v650.toNat, 0, 7]
def k0_off23 (k0_t1 : Fin k0_t1_loop.trips) : Fin 3 → Nat :=
  let c10_463 : Index := 10#32
  let c0_i32 : BitVec 32 := 0#32
  let c1_i32 : BitVec 32 := 1#32
  let arg11 : BitVec 32 := Scf.iv c0_i32 c1_i32 k0_t1
  let c256_i32_462 : BitVec 32 := 256#32
  let v666 : BitVec 32 := Scalar.muli arg11 c256_i32_462
  let v667 : Index := Scalar.indexCast v666
  let c0_464 : Index := 0#32
  ![10, v667.toNat, 0]
def k0_off24 (k0_t1 : Fin k0_t1_loop.trips) : Fin 3 → Nat :=
  let c15_466 : Index := 15#32
  let c0_i32 : BitVec 32 := 0#32
  let c1_i32 : BitVec 32 := 1#32
  let arg11 : BitVec 32 := Scf.iv c0_i32 c1_i32 k0_t1
  let c256_i32_465 : BitVec 32 := 256#32
  let v672 : BitVec 32 := Scalar.muli arg11 c256_i32_465
  let v673 : Index := Scalar.indexCast v672
  let c0_467 : Index := 0#32
  ![15, v673.toNat, 0]
def k0_off25 (k0_t1 : Fin k0_t1_loop.trips) : Fin 3 → Nat :=
  let c11_473 : Index := 11#32
  let c0_i32 : BitVec 32 := 0#32
  let c1_i32 : BitVec 32 := 1#32
  let arg11 : BitVec 32 := Scf.iv c0_i32 c1_i32 k0_t1
  let c256_i32_472 : BitVec 32 := 256#32
  let v682 : BitVec 32 := Scalar.muli arg11 c256_i32_472
  let v683 : Index := Scalar.indexCast v682
  let c0_474 : Index := 0#32
  ![11, v683.toNat, 0]
def k0_off26 (k0_t1 : Fin k0_t1_loop.trips) : Fin 3 → Nat :=
  let c16_476 : Index := 16#32
  let c0_i32 : BitVec 32 := 0#32
  let c1_i32 : BitVec 32 := 1#32
  let arg11 : BitVec 32 := Scf.iv c0_i32 c1_i32 k0_t1
  let c256_i32_475 : BitVec 32 := 256#32
  let v688 : BitVec 32 := Scalar.muli arg11 c256_i32_475
  let v689 : Index := Scalar.indexCast v688
  let c0_477 : Index := 0#32
  ![16, v689.toNat, 0]
def k0_off27 (k0_t1 : Fin k0_t1_loop.trips) : Fin 3 → Nat :=
  let c12_483 : Index := 12#32
  let c0_i32 : BitVec 32 := 0#32
  let c1_i32 : BitVec 32 := 1#32
  let arg11 : BitVec 32 := Scf.iv c0_i32 c1_i32 k0_t1
  let c256_i32_482 : BitVec 32 := 256#32
  let v698 : BitVec 32 := Scalar.muli arg11 c256_i32_482
  let v699 : Index := Scalar.indexCast v698
  let c0_484 : Index := 0#32
  ![12, v699.toNat, 0]
def k0_off28 (k0_t1 : Fin k0_t1_loop.trips) : Fin 3 → Nat :=
  let c17_486 : Index := 17#32
  let c0_i32 : BitVec 32 := 0#32
  let c1_i32 : BitVec 32 := 1#32
  let arg11 : BitVec 32 := Scf.iv c0_i32 c1_i32 k0_t1
  let c256_i32_485 : BitVec 32 := 256#32
  let v704 : BitVec 32 := Scalar.muli arg11 c256_i32_485
  let v705 : Index := Scalar.indexCast v704
  let c0_487 : Index := 0#32
  ![17, v705.toNat, 0]
def k0_off29 (k0_t1 : Fin k0_t1_loop.trips) : Fin 3 → Nat :=
  let c13_493 : Index := 13#32
  let c0_i32 : BitVec 32 := 0#32
  let c1_i32 : BitVec 32 := 1#32
  let arg11 : BitVec 32 := Scf.iv c0_i32 c1_i32 k0_t1
  let c256_i32_492 : BitVec 32 := 256#32
  let v714 : BitVec 32 := Scalar.muli arg11 c256_i32_492
  let v715 : Index := Scalar.indexCast v714
  let c0_494 : Index := 0#32
  ![13, v715.toNat, 0]
def k0_off30 (k0_t1 : Fin k0_t1_loop.trips) : Fin 3 → Nat :=
  let c18_496 : Index := 18#32
  let c0_i32 : BitVec 32 := 0#32
  let c1_i32 : BitVec 32 := 1#32
  let arg11 : BitVec 32 := Scf.iv c0_i32 c1_i32 k0_t1
  let c256_i32_495 : BitVec 32 := 256#32
  let v720 : BitVec 32 := Scalar.muli arg11 c256_i32_495
  let v721 : Index := Scalar.indexCast v720
  let c0_497 : Index := 0#32
  ![18, v721.toNat, 0]
def k0_off31 (k0_t1 : Fin k0_t1_loop.trips) : Fin 3 → Nat :=
  let c14_503 : Index := 14#32
  let c0_i32 : BitVec 32 := 0#32
  let c1_i32 : BitVec 32 := 1#32
  let arg11 : BitVec 32 := Scf.iv c0_i32 c1_i32 k0_t1
  let c256_i32_502 : BitVec 32 := 256#32
  let v730 : BitVec 32 := Scalar.muli arg11 c256_i32_502
  let v731 : Index := Scalar.indexCast v730
  let c0_504 : Index := 0#32
  ![14, v731.toNat, 0]
def k0_off32 (k0_t1 : Fin k0_t1_loop.trips) : Fin 3 → Nat :=
  let c19_506 : Index := 19#32
  let c0_i32 : BitVec 32 := 0#32
  let c1_i32 : BitVec 32 := 1#32
  let arg11 : BitVec 32 := Scf.iv c0_i32 c1_i32 k0_t1
  let c256_i32_505 : BitVec 32 := 256#32
  let v736 : BitVec 32 := Scalar.muli arg11 c256_i32_505
  let v737 : Index := Scalar.indexCast v736
  let c0_507 : Index := 0#32
  ![19, v737.toNat, 0]
def k0_off33 (k0_t1 : Fin k0_t1_loop.trips) : Fin 3 → Nat :=
  let c0_i32 : BitVec 32 := 0#32
  let c1_i32 : BitVec 32 := 1#32
  let arg11 : BitVec 32 := Scf.iv c0_i32 c1_i32 k0_t1
  let v741 : Index := Scalar.indexCast arg11
  let c0_508 : Index := 0#32
  let c256_509 : Index := 256#32
  ![v741.toNat, 0, 256]
def k0_off34 (k0_t1 : Fin k0_t1_loop.trips) : Fin 3 → Nat :=
  let c0_i32 : BitVec 32 := 0#32
  let c1_i32 : BitVec 32 := 1#32
  let arg11 : BitVec 32 := Scf.iv c0_i32 c1_i32 k0_t1
  let v748 : Index := Scalar.indexCast arg11
  let c0_512 : Index := 0#32
  let c8_513 : Index := 8#32
  ![v748.toNat, 0, 8]
def k0_off35 (k0_t1 : Fin k0_t1_loop.trips) : Fin 3 → Nat :=
  let c0_i32 : BitVec 32 := 0#32
  let c1_i32 : BitVec 32 := 1#32
  let arg11 : BitVec 32 := Scf.iv c0_i32 c1_i32 k0_t1
  let v753 : Index := Scalar.indexCast arg11
  let c0_514 : Index := 0#32
  let c9_515 : Index := 9#32
  ![v753.toNat, 0, 9]
def k0_off36 (k0_t1 : Fin k0_t1_loop.trips) : Fin 3 → Nat :=
  let c0_i32 : BitVec 32 := 0#32
  let c1_i32 : BitVec 32 := 1#32
  let arg11 : BitVec 32 := Scf.iv c0_i32 c1_i32 k0_t1
  let v758 : Index := Scalar.indexCast arg11
  let c0_516 : Index := 0#32
  let c10_517 : Index := 10#32
  ![v758.toNat, 0, 10]
def k0_off37 (k0_t1 : Fin k0_t1_loop.trips) : Fin 3 → Nat :=
  let c0_i32 : BitVec 32 := 0#32
  let c1_i32 : BitVec 32 := 1#32
  let arg11 : BitVec 32 := Scf.iv c0_i32 c1_i32 k0_t1
  let v763 : Index := Scalar.indexCast arg11
  let c0_518 : Index := 0#32
  let c11_519 : Index := 11#32
  ![v763.toNat, 0, 11]
def k0_off38 (k0_t1 : Fin k0_t1_loop.trips) : Fin 3 → Nat :=
  let c20_527 : Index := 20#32
  let c0_i32 : BitVec 32 := 0#32
  let c1_i32 : BitVec 32 := 1#32
  let arg11 : BitVec 32 := Scf.iv c0_i32 c1_i32 k0_t1
  let c256_i32_526 : BitVec 32 := 256#32
  let v779 : BitVec 32 := Scalar.muli arg11 c256_i32_526
  let v780 : Index := Scalar.indexCast v779
  let c0_528 : Index := 0#32
  ![20, v780.toNat, 0]
def k0_off39 (k0_t1 : Fin k0_t1_loop.trips) : Fin 3 → Nat :=
  let c25_530 : Index := 25#32
  let c0_i32 : BitVec 32 := 0#32
  let c1_i32 : BitVec 32 := 1#32
  let arg11 : BitVec 32 := Scf.iv c0_i32 c1_i32 k0_t1
  let c256_i32_529 : BitVec 32 := 256#32
  let v785 : BitVec 32 := Scalar.muli arg11 c256_i32_529
  let v786 : Index := Scalar.indexCast v785
  let c0_531 : Index := 0#32
  ![25, v786.toNat, 0]
def k0_off40 (k0_t1 : Fin k0_t1_loop.trips) : Fin 3 → Nat :=
  let c21_537 : Index := 21#32
  let c0_i32 : BitVec 32 := 0#32
  let c1_i32 : BitVec 32 := 1#32
  let arg11 : BitVec 32 := Scf.iv c0_i32 c1_i32 k0_t1
  let c256_i32_536 : BitVec 32 := 256#32
  let v795 : BitVec 32 := Scalar.muli arg11 c256_i32_536
  let v796 : Index := Scalar.indexCast v795
  let c0_538 : Index := 0#32
  ![21, v796.toNat, 0]
def k0_off41 (k0_t1 : Fin k0_t1_loop.trips) : Fin 3 → Nat :=
  let c26_540 : Index := 26#32
  let c0_i32 : BitVec 32 := 0#32
  let c1_i32 : BitVec 32 := 1#32
  let arg11 : BitVec 32 := Scf.iv c0_i32 c1_i32 k0_t1
  let c256_i32_539 : BitVec 32 := 256#32
  let v801 : BitVec 32 := Scalar.muli arg11 c256_i32_539
  let v802 : Index := Scalar.indexCast v801
  let c0_541 : Index := 0#32
  ![26, v802.toNat, 0]
def k0_off42 (k0_t1 : Fin k0_t1_loop.trips) : Fin 3 → Nat :=
  let c22_547 : Index := 22#32
  let c0_i32 : BitVec 32 := 0#32
  let c1_i32 : BitVec 32 := 1#32
  let arg11 : BitVec 32 := Scf.iv c0_i32 c1_i32 k0_t1
  let c256_i32_546 : BitVec 32 := 256#32
  let v811 : BitVec 32 := Scalar.muli arg11 c256_i32_546
  let v812 : Index := Scalar.indexCast v811
  let c0_548 : Index := 0#32
  ![22, v812.toNat, 0]
def k0_off43 (k0_t1 : Fin k0_t1_loop.trips) : Fin 3 → Nat :=
  let c27_550 : Index := 27#32
  let c0_i32 : BitVec 32 := 0#32
  let c1_i32 : BitVec 32 := 1#32
  let arg11 : BitVec 32 := Scf.iv c0_i32 c1_i32 k0_t1
  let c256_i32_549 : BitVec 32 := 256#32
  let v817 : BitVec 32 := Scalar.muli arg11 c256_i32_549
  let v818 : Index := Scalar.indexCast v817
  let c0_551 : Index := 0#32
  ![27, v818.toNat, 0]
def k0_off44 (k0_t1 : Fin k0_t1_loop.trips) : Fin 3 → Nat :=
  let c23_557 : Index := 23#32
  let c0_i32 : BitVec 32 := 0#32
  let c1_i32 : BitVec 32 := 1#32
  let arg11 : BitVec 32 := Scf.iv c0_i32 c1_i32 k0_t1
  let c256_i32_556 : BitVec 32 := 256#32
  let v827 : BitVec 32 := Scalar.muli arg11 c256_i32_556
  let v828 : Index := Scalar.indexCast v827
  let c0_558 : Index := 0#32
  ![23, v828.toNat, 0]
def k0_off45 (k0_t1 : Fin k0_t1_loop.trips) : Fin 3 → Nat :=
  let c28_560 : Index := 28#32
  let c0_i32 : BitVec 32 := 0#32
  let c1_i32 : BitVec 32 := 1#32
  let arg11 : BitVec 32 := Scf.iv c0_i32 c1_i32 k0_t1
  let c256_i32_559 : BitVec 32 := 256#32
  let v833 : BitVec 32 := Scalar.muli arg11 c256_i32_559
  let v834 : Index := Scalar.indexCast v833
  let c0_561 : Index := 0#32
  ![28, v834.toNat, 0]
def k0_off46 (k0_t1 : Fin k0_t1_loop.trips) : Fin 3 → Nat :=
  let c24_567 : Index := 24#32
  let c0_i32 : BitVec 32 := 0#32
  let c1_i32 : BitVec 32 := 1#32
  let arg11 : BitVec 32 := Scf.iv c0_i32 c1_i32 k0_t1
  let c256_i32_566 : BitVec 32 := 256#32
  let v843 : BitVec 32 := Scalar.muli arg11 c256_i32_566
  let v844 : Index := Scalar.indexCast v843
  let c0_568 : Index := 0#32
  ![24, v844.toNat, 0]
def k0_off47 (k0_t1 : Fin k0_t1_loop.trips) : Fin 3 → Nat :=
  let c29_570 : Index := 29#32
  let c0_i32 : BitVec 32 := 0#32
  let c1_i32 : BitVec 32 := 1#32
  let arg11 : BitVec 32 := Scf.iv c0_i32 c1_i32 k0_t1
  let c256_i32_569 : BitVec 32 := 256#32
  let v849 : BitVec 32 := Scalar.muli arg11 c256_i32_569
  let v850 : Index := Scalar.indexCast v849
  let c0_571 : Index := 0#32
  ![29, v850.toNat, 0]
abbrev stage0_0 : Fin 1 → Memref sig .tc .vmem S6x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1280x384 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x768x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x768x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S6x256x768 : Shape := ⟨3, ![6, 256, 768]⟩
abbrev S6x1280x384 : Shape := ⟨3, ![6, 1280, 384]⟩
abbrev S6x256x12 : Shape := ⟨3, ![6, 256, 12]⟩
abbrev S10x768x384 : Shape := ⟨3, ![10, 768, 384]⟩
abbrev S384 : Shape := ⟨1, ![384]⟩
abbrev S6x256x5x12x32 : Shape := ⟨5, ![6, 256, 5, 12, 32]⟩
abbrev S6x256x1x12x1 : Shape := ⟨5, ![6, 256, 1, 12, 1]⟩
abbrev S6x256x5x384 : Shape := ⟨4, ![6, 256, 5, 384]⟩
abbrev S1x1x384 : Shape := ⟨3, ![1, 1, 384]⟩
abbrev S2x5x768x384 : Shape := ⟨4, ![2, 5, 768, 384]⟩
abbrev S2x768x6x256 : Shape := ⟨4, ![2, 768, 6, 256]⟩
abbrev S2x6x256x768 : Shape := ⟨4, ![2, 6, 256, 768]⟩
abbrev S1x6x256x768 : Shape := ⟨4, ![1, 6, 256, 768]⟩
abbrev S6x255x768 : Shape := ⟨3, ![6, 255, 768]⟩
abbrev S6x1x768 : Shape := ⟨3, ![6, 1, 768]⟩
abbrev S5x384x2x768 : Shape := ⟨4, ![5, 384, 2, 768]⟩

abbrev nBuf : Space → Nat
  | .hbm => 7
  | .vmem => 7
  | .smem => 0
  | _ => 0

abbrev bufTy : (tb : Table) → Fin (tcTables nBuf tb) → BufTy
  | .hbm, ⟨0, _⟩ => ⟨S6x256x768, .bf16⟩
  | .hbm, ⟨1, _⟩ => ⟨S6x1280x384, .fp8e5m2⟩
  | .hbm, ⟨2, _⟩ => ⟨S6x256x12, .f32⟩
  | .hbm, ⟨3, _⟩ => ⟨S10x768x384, .fp8e4m3⟩
  | .hbm, ⟨4, _⟩ => ⟨S384, .f32⟩
  | .hbm, ⟨5, _⟩ => ⟨S6x256x768, .bf16⟩
  | .hbm, ⟨6, _⟩ => ⟨S10x768x384, .f32⟩
  | .local _ .vmem, ⟨0, _⟩ => ⟨S6x256x768, .bf16⟩
  | .local _ .vmem, ⟨1, _⟩ => ⟨S6x1280x384, .fp8e5m2⟩
  | .local _ .vmem, ⟨2, _⟩ => ⟨S6x256x12, .f32⟩
  | .local _ .vmem, ⟨3, _⟩ => ⟨S10x768x384, .fp8e4m3⟩
  | .local _ .vmem, ⟨4, _⟩ => ⟨S384, .f32⟩
  | .local _ .vmem, ⟨5, _⟩ => ⟨S6x256x768, .bf16⟩
  | .local _ .vmem, ⟨6, _⟩ => ⟨S10x768x384, .f32⟩
  | _, _ => ⟨S6x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1280x384 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x768x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x768x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/-
  The frame of the kernel as it is compiled (`Kernel`): it runs to its end without a fault, its five argument arrays end
  unchanged, and every semaphore counter ends at zero. The kernel has one grid point and four scratch buffers. Its body
  is run once by `sl_exec`, which goes through the counted loop over the six batches by the generated loop invariant.
  What it leaves in its two results is not described here (the two output windows are forgotten); the values are the
  subject of the other modules.
-/
module

public import proofs.«01_k».proof.Proof.Gen.Kernel.Frame
public import proofs.«01_k».proof.Proof.Gen.Kernel.Loops
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- The body's triple, for any continuation: from the five inputs at known contents and the two results and the four
    scratch buffers at any, the kernel runs to its return and hands back the inputs as they were and the rest at some
    contents. -/
theorem kernelRun (c : Dev nD) (E : Set ℕ)
    (arg0 : Memref sig .tc .vmem S6x256x768 .bf16) (harg0 : arg0.IsWhole)
    (arg1 : Memref sig .tc .vmem S6x1280x384 .fp8e5m2) (harg1 : arg1.IsWhole)
    (arg2 : Memref sig .tc .vmem S6x256x12 .f32) (harg2 : arg2.IsWhole)
    (arg3 : Memref sig .tc .vmem S10x768x384 .fp8e4m3) (harg3 : arg3.IsWhole)
    (arg4 : Memref sig .tc .vmem S1x384 .f32) (harg4 : arg4.IsWhole)
    (arg5 : Memref sig .tc .vmem S6x256x768 .bf16) (harg5 : arg5.IsWhole)
    (arg6 : Memref sig .tc .vmem S10x768x384 .f32) (harg6 : arg6.IsWhole)
    (arg7 : Memref sig .tc .vmem S30x1536x128 .bf16) (harg7 : arg7.IsWhole)
    (arg8 : Memref sig .tc .vmem S30x768x128 .bf16) (harg8 : arg8.IsWhole)
    (arg9 : Memref sig .tc .vmem S768x1536 .bf16) (harg9 : arg9.IsWhole)
    (arg10 : Memref sig .tc .vmem S1288x128 .f32) (harg10 : arg10.IsWhole)
    (x0 : Vec F S6x256x768 .bf16) (x1 : Vec F S6x1280x384 .fp8e5m2) (x2 : Vec F S6x256x12 .f32) (x3 : Vec F S10x768x384 .fp8e4m3) (x4 : Vec F S1x384 .f32) (K : PUnit → sProp 𝕄) :
    iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        (∃ d, owns (c : Thread nD τ) arg5 fullShare d) ∗
        (∃ d, owns (c : Thread nD τ) arg6 fullShare d) ∗
        (∃ d, owns (c : Thread nD τ) arg7 fullShare d) ∗
        (∃ d, owns (c : Thread nD τ) arg8 fullShare d) ∗
        (∃ d, owns (c : Thread nD τ) arg9 fullShare d) ∗
        (∃ d, owns (c : Thread nD τ) arg10 fullShare d)
        ∗ (iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        (∃ d, owns (c : Thread nD τ) arg5 fullShare d) ∗
        (∃ d, owns (c : Thread nD τ) arg6 fullShare d) ∗
        (∃ d, owns (c : Thread nD τ) arg7 fullShare d) ∗
        (∃ d, owns (c : Thread nD τ) arg8 fullShare d) ∗
        (∃ d, owns (c : Thread nD τ) arg9 fullShare d) ∗
        (∃ d, owns (c : Thread nD τ) arg10 fullShare d)) -∗ K ⟨⟩))
      ⊢ wp frame (wpE (defs₀ (F := F)) Variants.none c none) E (cc0_convt_bwd arg0 harg0 arg1 harg1 arg2 harg2 arg3 harg3 arg4 harg4 arg5 harg5 arg6 harg6 arg7 harg7 arg8 harg8 arg9 harg9 arg10 harg10) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The proof data -/

/-- Both output windows are forgotten: the frame says nothing of what they end at. -/
def forgets0 : Fin 7 → Bool := fun | 0 => false | 1 => false | 2 => false | 3 => false | 4 => false | 5 => true | 6 => true

/-- The proof data of the one pipeline on core `c`: the arrays as the region finds them; after the body each input's
    buffer at its block, the outputs' unnamed; the invariant the scratch at some contents and the generator register at
    some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-! What the body leaves in each input's buffer, and what it finds there: that input's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d))

/-- The invariant conjunct by conjunct: the four scratch buffers owned at some contents, and the generator register. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA
  rw [scopedRest0_eq]; simp only [owns_whole]; try rfl

/-- The body at any point: the inputs' buffers hold their blocks, the scratch is taken out of the invariant and put
    back, and `kernelRun` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨⟨HS0, HS1, HS2, HS3⟩, Hg⟩, Ho, ⟨%d0, H0⟩, ⟨%d1, H1⟩, ⟨%d2, H2⟩, ⟨%d3, H3⟩, ⟨%d4, H4⟩, H5, H6⟩
  iapply (kernelRun c Set.univ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- From any memory with zero counters the program ends, every input array and every buffer no window stages as the
    region found it, and every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program ends, its five argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c)⟩, h.2⟩)
    (run_main m ρ)

end Cert.Kernel.Hand

end
-- ==== Proof.Spec.lean ====
/-
  What the kernel computes, written over the contents of its argument arrays at the extended reals, index by index, and
  the small facts about one batch's gradients: the scaled output gradient, the slabs the kernel lays it out in, and what
  each kind of stored slab holds.
-/
module

public import proofs.«01_k».proof.Proof.Gen.KernelIdeal.Skeleton
public import proofs.«01_k».proof.Proof.Gen.KernelIdeal
public import Idealize.ShloMosaic.Lib.Pointwise
public import Idealize.ShloMosaic.Lib.Exec
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The scaled gradient and its slabs -/

section Spec
variable (DY : FVec Ideal S6x1280x384 .fp8e5m2) (SC : FVec Ideal S6x256x12 .f32)

/-- The scaled output gradient at batch `b`, row `5 t + p`, channel `o`. -/
def gA (b : Fin 6) (t : Fin 256) (p : Fin 5) (o : Fin 384) : EReal :=
  DY (ix3 b ⟨5 * t.val + p.val, by omega⟩ o) * SC (ix3 b t ⟨o.val / 32, by omega⟩)

/-- The gradient a tap of the first half (`j = 0`) meets at step `t`, or one of the second half: that of the next step,
    zero after the last. -/
def gJ (j : Fin 2) (b : Fin 6) (t : Fin 256) (p : Fin 5) (o : Fin 384) : EReal :=
  if j.val = 0 then gA DY SC b t p o else if h : t.val + 1 < 256 then gA DY SC b ⟨t.val + 1, h⟩ p o else 0

/-- The thirty slabs of gradients: slab `10 ob + 5 j + p` holds the channels of block `ob` for tap `5 j + p`, its row
    `256 b + t`. -/
def G2 (y : S30x1536x128.Idx) : EReal :=
  have h0 : (y 0).val < 30 := (y 0).isLt
  have h1 : (y 1).val < 1536 := (y 1).isLt
  have h2 : (y 2).val < 128 := (y 2).isLt
  gJ DY SC ⟨(y 0).val % 10 / 5, by omega⟩ ⟨(y 1).val / 256, by omega⟩ ⟨(y 1).val % 256, by omega⟩
    ⟨(y 0).val % 5, by omega⟩ ⟨128 * ((y 0).val / 10) + (y 2).val, by omega⟩

/-- One column of the scales of a batch, as the kernel loads it. -/
def scl (b : Fin 6) (g : Fin 12) : FVec Ideal S1x256x1 .f32 := fun x =>
  SC (ix3 b ⟨(x 1).val, (x 1).isLt⟩ g)

/-- The 128 scales of each row for channel block `ob`: four groups of thirty-two. -/
theorem pay6_at (b : Fin 6) (ob : Fin 3) (t : Fin 256) (l : Fin 128) :
    k0_pay6 (F := Ideal) (scl SC b ⟨4 * ob.val, by omega⟩) (scl SC b ⟨4 * ob.val + 1, by omega⟩)
      (scl SC b ⟨4 * ob.val + 2, by omega⟩) (scl SC b ⟨4 * ob.val + 3, by omega⟩) (ix2 t l)
      = SC (ix3 b t ⟨(128 * ob.val + l.val) / 32, by omega⟩) := by
  pointwise [k0_pay6, scl]
  split_ifs <;> exact congrArg (fun g => SC (ix3 b t g)) (Fin.ext (by dsimp only; omega))

/-- The rows of one tap, as the kernel reads them: every fifth row of a batch's codes from row `p` on. -/
def rowsAt (b : Fin 6) (ob : Fin 3) (p : Fin 5) : FVec Ideal S256x128 .f32 := fun x =>
  have h0 : (x 0).val < 256 := (x 0).isLt
  have h1 : (x 1).val < 128 := (x 1).isLt
  DY (ix3 b ⟨5 * (x 0).val + p.val, by omega⟩ ⟨128 * ob.val + (x 1).val, by omega⟩)

/-- The slabs read in a batch's block of one slab. -/
theorem G2_emb (b : Fin 6) (ob : Fin 3) (j : Fin 2) (p : Fin 5) (off : Fin 3 → Nat)
    (hoff : off = ![10 * ob.val + 5 * j.val + p.val, 256 * b.val, 0])
    (inb : ∀ a, off a + S1x256x128.size a ≤ S30x1536x128.size a) (t : Fin 256) (l : Fin 128) :
    G2 DY SC ((Rect.unit (s := S30x1536x128) off S1x256x128.size inb).emb (ix3 0 t l))
      = gJ DY SC j b t p ⟨128 * ob.val + l.val, by omega⟩ := by
  subst hoff
  have e0 : ((Rect.unit (s := S30x1536x128) _ S1x256x128.size inb).emb (ix3 0 t l) 0).val
      = 10 * ob.val + 5 * j.val + p.val := by simp [Rect.unit, Rect.emb]
  have e1 : ((Rect.unit (s := S30x1536x128) _ S1x256x128.size inb).emb (ix3 0 t l) 1).val
      = 256 * b.val + t.val := by simp [Rect.unit, Rect.emb]
  have e2 : ((Rect.unit (s := S30x1536x128) _ S1x256x128.size inb).emb (ix3 0 t l) 2).val
      = l.val := by simp [Rect.unit, Rect.emb]
  dsimp only [G2]
  have hj := j.isLt
  congr 1 <;> apply Fin.ext <;> dsimp only <;> simp only [e0, e1, e2] <;> omega

/-- A slab of the first half holds the rows times the scales. -/
theorem j0_at (b : Fin 6) (ob : Fin 3) (p : Fin 5) (t : Fin 256) (l : Fin 128) :
    k0_pay11 (F := Ideal) (k0_pay6 (scl SC b ⟨4 * ob.val, by omega⟩) (scl SC b ⟨4 * ob.val + 1, by omega⟩)
      (scl SC b ⟨4 * ob.val + 2, by omega⟩) (scl SC b ⟨4 * ob.val + 3, by omega⟩)) (rowsAt DY b ob p) (ix3 0 t l)
      = gJ DY SC 0 b t p ⟨128 * ob.val + l.val, by omega⟩ := by
  pointwise [k0_pay11, k0_pay9, pay6_at, rowsAt]
  rfl

/-- The comparison of a row number with 255, as a bit. -/
theorem isLast (t : Fin 256) :
    IntOp.cmpi CmpIPredicate.eq (BitVec.ofNat 32 t.val) 255#32 = if t.val + 1 < 256 then 0#1 else 1#1 := by
  revert t; decide +kernel

/-- A slab of the second half holds the next step's rows times the next step's scales, and zero at the last step, where
    the scale is set to zero. -/
theorem j1_at (b : Fin 6) (ob : Fin 3) (p : Fin 5) (v : FVec Ideal S256x128 .f32)
    (hv : ∀ (t : Fin 256) (l : Fin 128) (h : t.val + 1 < 256), v (ix2 t l) = rowsAt DY b ob p (ix2 ⟨t.val + 1, h⟩ l))
    (t : Fin 256) (l : Fin 128) :
    k0_pay12 (F := Ideal) k0_pay151 (k0_pay7 (scl SC b ⟨4 * ob.val, by omega⟩) (scl SC b ⟨4 * ob.val + 1, by omega⟩)
      (scl SC b ⟨4 * ob.val + 2, by omega⟩) (scl SC b ⟨4 * ob.val + 3, by omega⟩)) k0_pay8 v (ix3 0 t l)
      = gJ DY SC 1 b t p ⟨128 * ob.val + l.val, by omega⟩ := by
  pointwise [k0_pay12, k0_pay10, k0_pay7, k0_pay8, k0_pay151, pay6_at]
  rw [isLast]
  by_cases h : t.val + 1 < 256
  · rw [if_pos h, hv t l h]
    have e : (t.val + 256 - 255) % 256 = t.val + 1 := by omega
    simp only [e]
    pointwise [gJ, gA, rowsAt, h]
  · rw [if_neg h]
    simp [gJ, h, Scalar.select]

end Spec

end Cert.KernelIdeal.Hand

end
-- ==== Proof.Step.lean ====
/-
  One trip of the batch loop, run once at a symbolic trip number: the pieces that it writes into each array are what the
  run itself finds, as functions of what the arrays hold before it.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the runs. -/
local notation "𝕄G" => MT nD τ sig Unit (Elt F) ℕ (UR sig nD τ) ℕ

/-- One trip's resources: what the region reads (arg0, arg1, arg2, arg8) at its contents, what it
   writes (arg5, arg7, arg9, arg10) at any. -/
abbrev Trip_k0_t1 (c : Dev nD) (arg0 : Memref sig .tc .vmem S6x256x768 .bf16) (arg1 : Memref sig .tc .vmem S6x1280x384 .fp8e5m2) (arg2 : Memref sig .tc .vmem S6x256x12 .f32) (arg8 : Memref sig .tc .vmem S30x768x128 .bf16) (arg5 : Memref sig .tc .vmem S6x256x768 .bf16) (arg7 : Memref sig .tc .vmem S30x1536x128 .bf16) (arg9 : Memref sig .tc .vmem S768x1536 .bf16) (arg10 : Memref sig .tc .vmem S1288x128 .f32) (X_arg0 : BufTy.Contents (Elt F) arg0.view.ty) (X_arg1 : BufTy.Contents (Elt F) arg1.view.ty) (X_arg2 : BufTy.Contents (Elt F) arg2.view.ty) (X_arg8 : BufTy.Contents (Elt F) arg8.view.ty) (f_arg5 : BufTy.Contents (Elt F) arg5.view.ty) (f_arg7 : BufTy.Contents (Elt F) arg7.view.ty) (f_arg9 : BufTy.Contents (Elt F) arg9.view.ty) (f_arg10 : BufTy.Contents (Elt F) arg10.view.ty) : sProp 𝕄G :=
  iprop((arg0.view.loc (c : Thread nD τ) ↦[arg0.view.set]{fullShare} X_arg0) ∗ (arg1.view.loc (c : Thread nD τ) ↦[arg1.view.set]{fullShare} X_arg1) ∗ (arg2.view.loc (c : Thread nD τ) ↦[arg2.view.set]{fullShare} X_arg2) ∗ (arg8.view.loc (c : Thread nD τ) ↦[arg8.view.set]{fullShare} X_arg8) ∗ (arg5.view.loc (c : Thread nD τ) ↦[arg5.view.set]{fullShare} f_arg5) ∗ (arg7.view.loc (c : Thread nD τ) ↦[arg7.view.set]{fullShare} f_arg7) ∗ (arg9.view.loc (c : Thread nD τ) ↦[arg9.view.set]{fullShare} f_arg9) ∗ (arg10.view.loc (c : Thread nD τ) ↦[arg10.view.set]{fullShare} f_arg10))

/-- One trip of the loop at a symbolic `k`: from what it reads and writes, it ends with the same reads and, in each of the
    four arrays it writes, a list of pieces over what it found there. The lists are what the run finds; they depend on
    the contents found, since the trip loads some of its own stores back. -/
@[irreducible] def trip_k0_t1 (𝒱 : Variants) (c : Dev nD) (bd : Option 𝒱.V) (arg0 : Memref sig .tc .vmem S6x256x768 .bf16) (harg0 : arg0.IsWhole) (arg1 : Memref sig .tc .vmem S6x1280x384 .fp8e5m2) (harg1 : arg1.IsWhole) (arg2 : Memref sig .tc .vmem S6x256x12 .f32) (harg2 : arg2.IsWhole) (arg3 : Memref sig .tc .vmem S10x768x384 .fp8e4m3) (harg3 : arg3.IsWhole) (arg4 : Memref sig .tc .vmem S1x384 .f32) (harg4 : arg4.IsWhole) (arg5 : Memref sig .tc .vmem S6x256x768 .bf16) (harg5 : arg5.IsWhole) (arg6 : Memref sig .tc .vmem S10x768x384 .f32) (harg6 : arg6.IsWhole) (arg7 : Memref sig .tc .vmem S30x1536x128 .bf16) (harg7 : arg7.IsWhole) (arg8 : Memref sig .tc .vmem S30x768x128 .bf16) (harg8 : arg8.IsWhole) (arg9 : Memref sig .tc .vmem S768x1536 .bf16) (harg9 : arg9.IsWhole) (arg10 : Memref sig .tc .vmem S1288x128 .f32) (harg10 : arg10.IsWhole) (v269 : FVec F S768x128 .bf16) (X_arg0 : BufTy.Contents (Elt F) arg0.view.ty) (X_arg1 : BufTy.Contents (Elt F) arg1.view.ty) (X_arg2 : BufTy.Contents (Elt F) arg2.view.ty) (X_arg8 : BufTy.Contents (Elt F) arg8.view.ty) (k : Fin k0_t1_loop.trips) :
    Σ' (L_arg5 : (BufTy.Contents (Elt F) arg5.view.ty → BufTy.Contents (Elt F) arg7.view.ty → BufTy.Contents (Elt F) arg9.view.ty → BufTy.Contents (Elt F) arg10.view.ty → List (View.Piece (Elt F) S6x256x768 .bf16))) (L_arg7 : (BufTy.Contents (Elt F) arg5.view.ty → BufTy.Contents (Elt F) arg7.view.ty → BufTy.Contents (Elt F) arg9.view.ty → BufTy.Contents (Elt F) arg10.view.ty → List (View.Piece (Elt F) S30x1536x128 .bf16))) (L_arg9 : (BufTy.Contents (Elt F) arg5.view.ty → BufTy.Contents (Elt F) arg7.view.ty → BufTy.Contents (Elt F) arg9.view.ty → BufTy.Contents (Elt F) arg10.view.ty → List (View.Piece (Elt F) S768x1536 .bf16))) , { L_arg10 : (BufTy.Contents (Elt F) arg5.view.ty → BufTy.Contents (Elt F) arg7.view.ty → BufTy.Contents (Elt F) arg9.view.ty → BufTy.Contents (Elt F) arg10.view.ty → List (View.Piece (Elt F) S1288x128 .f32)) // ∀ (E : Set ℕ) (f_arg5 : BufTy.Contents (Elt F) arg5.view.ty) (f_arg7 : BufTy.Contents (Elt F) arg7.view.ty) (f_arg9 : BufTy.Contents (Elt F) arg9.view.ty) (f_arg10 : BufTy.Contents (Elt F) arg10.view.ty),
      Trip_k0_t1 (F := F) c arg0 arg1 arg2 arg8 arg5 arg7 arg9 arg10 X_arg0 X_arg1 X_arg2 X_arg8 f_arg5 f_arg7 f_arg9 f_arg10
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 v269 k PUnit.unit)
          (fun _ => Trip_k0_t1 (F := F) c arg0 arg1 arg2 arg8 arg5 arg7 arg9 arg10 X_arg0 X_arg1 X_arg2 X_arg8 (arg5.view.writes (Elt F) f_arg5 (L_arg5 f_arg5 f_arg7 f_arg9 f_arg10)) (arg7.view.writes (Elt F) f_arg7 (L_arg7 f_arg5 f_arg7 f_arg9 f_arg10)) (arg9.view.writes (Elt F) f_arg9 (L_arg9 f_arg5 f_arg7 f_arg9 f_arg10)) (arg10.view.writes (Elt F) f_arg10 (L_arg10 f_arg5 f_arg7 f_arg9 f_arg10))) } := by
  have hk : k.val < 6 := Nat.lt_of_lt_of_le k.isLt k0_t1_abs.2.1
  refine ⟨?_, ?_, ?_, ?_, fun E f_arg5 f_arg7 f_arg9 f_arg10 => ?run⟩
  case run =>
    unfold k0_t1_body
    iintro ⟨HR_arg0, HR_arg1, HR_arg2, HR_arg8, HW_arg5, HW_arg7, HW_arg9, HW_arg10⟩
    sl_exec
    sl_step
    sl_close

end Cert.KernelIdeal.Hand

end
-- ==== Proof.Trip.lean ====
/-
  One trip of the kernel's loop, at the extended reals: what the pieces it stores hold. The pieces are those
  the run of a trip finds (`trip_k0_t1`); here each is read at an index.
-/
module

public import proofs.«01_k».proof.Proof.Spec
public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The loads of a trip -/

section Loads

/-- One column of a batch's scales, loaded. -/
theorem load_scl (arg2 : Memref sig .tc .vmem S6x256x12 .f32) (X : BufTy.Contents (Elt Ideal) arg2.view.ty)
    (b : Fin 6) (g : Fin 12) (off : Fin 3 → Nat) (hoff : off = ![b.val, 0, g.val])
    (inb : ∀ a, off a + S1x256x1.size a ≤ S6x256x12.size a) :
    View.readAt (Elt Ideal) arg2.view (Rect.unit (s := S6x256x12) off S1x256x1.size inb).toLoadRect X
      = scl (arg2.view.read (Elt Ideal) X) b g := by
  subst hoff
  funext x
  refine congrArg (arg2.view.read (Elt Ideal) X) (funext fun a => Fin.ext ?_)
  idx_vars x
  fin_cases a <;> simp [Rect.unit, LoadRect.idx] <;> omega

/-- Reading every fifth row from row `q` on of a buffer whose first 1280 rows were stored last: the stored rows. -/
theorem load_rows (arg10 : Memref sig .tc .vmem S1288x128 .f32) (f : BufTy.Contents (Elt Ideal) arg10.view.ty)
    (inb0 : ∀ a, (![0, 0] : Fin 2 → Nat) a + S1280x128.size a ≤ S1288x128.size a)
    (w : FVec Ideal S1280x128 .f32) (L : List (View.Piece (Elt Ideal) S1288x128 .f32)) (q : Nat)
    (inb) (t : Fin 256) (l : Fin 128) (h : 5 * t.val + q < 1280) :
    View.readAt (Elt Ideal) arg10.view
        { off := ![q, 0], size := S256x128.size, stride := ![5, 1], inb := inb }
        (arg10.view.writes (Elt Ideal) f (⟨Rect.unit (s := S1288x128) ![0, 0] S1280x128.size inb0, w⟩ :: L)) (ix2 t l)
      = w (ix2 ⟨5 * t.val + q, h⟩ l) := by
  have hx : (Rect.unit (s := S1288x128) ![0, 0] S1280x128.size inb0).emb (ix2 ⟨5 * t.val + q, h⟩ l)
      = (⟨![q, 0], S256x128.size, ![5, 1], inb⟩ : LoadRect S1288x128).idx (ix2 t l) := by
    funext a
    apply Fin.ext
    fin_cases a <;> simp [Rect.unit, Rect.emb, LoadRect.idx] <;> omega
  have key := View.read_writes_cons_hit arg10.view f (Rect.unit (s := S1288x128) ![0, 0] S1280x128.size inb0) w L
    (ix2 ⟨5 * t.val + q, h⟩ l) _ hx
  exact key

/-- A batch's codes for one block of channels, loaded and kept as rows. -/
theorem load_codes (arg1 : Memref sig .tc .vmem S6x1280x384 .fp8e5m2) (X : BufTy.Contents (Elt Ideal) arg1.view.ty)
    (b : Fin 6) (ob : Fin 3) (off : Fin 3 → Nat) (hoff : off = ![b.val, 0, 128 * ob.val])
    (inb : ∀ a, off a + S1x1280x128.size a ≤ S6x1280x384.size a) (r : Fin 1280) (l : Fin 128) :
    k0_pay5 (F := Ideal) (View.readAt (Elt Ideal) arg1.view
        (Rect.unit (s := S6x1280x384) off S1x1280x128.size inb).toLoadRect X) (ix2 r l)
      = (arg1.view.read (Elt Ideal) X : FVec Ideal S6x1280x384 .fp8e5m2) (ix3 b r ⟨128 * ob.val + l.val, by omega⟩) := by
  subst hoff
  pointwise [k0_pay5]
  refine congrArg (arg1.view.read (Elt Ideal) X) (funext fun a => Fin.ext ?_)
  fin_cases a <;> simp [Rect.unit, LoadRect.idx]

end Loads

/-! ## The slabs of a trip -/

section Slabs
variable (arg1 : Memref sig .tc .vmem S6x1280x384 .fp8e5m2) (arg2 : Memref sig .tc .vmem S6x256x12 .f32)
  (arg10 : Memref sig .tc .vmem S1288x128 .f32)
  (X1 : BufTy.Contents (Elt Ideal) arg1.view.ty) (X2 : BufTy.Contents (Elt Ideal) arg2.view.ty)

/-- A stored slab of the first half agrees with the slabs. -/
theorem piece_j0 (f : BufTy.Contents (Elt Ideal) arg10.view.ty) (L : List (View.Piece (Elt Ideal) S1288x128 .f32))
    (b : Fin 6) (ob : Fin 3) (p : Fin 5) {off o0 o1 o2 o3 oc : Fin 3 → Nat}
    (h0 : o0 = ![b.val, 0, 4 * ob.val]) (h1 : o1 = ![b.val, 0, 4 * ob.val + 1])
    (h2 : o2 = ![b.val, 0, 4 * ob.val + 2]) (h3 : o3 = ![b.val, 0, 4 * ob.val + 3])
    (hc : oc = ![b.val, 0, 128 * ob.val]) (hoff : off = ![10 * ob.val + 5 * 0 + p.val, 256 * b.val, 0])
    {inb i0 i1 i2 i3 ic ir is} (x : S1x256x128.Idx) :
    k0_pay11 (F := Ideal) (k0_pay6
        (View.readAt (Elt Ideal) arg2.view (Rect.unit (s := S6x256x12) o0 S1x256x1.size i0).toLoadRect X2)
        (View.readAt (Elt Ideal) arg2.view (Rect.unit (s := S6x256x12) o1 S1x256x1.size i1).toLoadRect X2)
        (View.readAt (Elt Ideal) arg2.view (Rect.unit (s := S6x256x12) o2 S1x256x1.size i2).toLoadRect X2)
        (View.readAt (Elt Ideal) arg2.view (Rect.unit (s := S6x256x12) o3 S1x256x1.size i3).toLoadRect X2))
      (View.readAt (Elt Ideal) arg10.view { off := ![p.val, 0], size := S256x128.size, stride := ![5, 1], inb := is }
        (arg10.view.writes (Elt Ideal) f (⟨Rect.unit (s := S1288x128) ![0, 0] S1280x128.size ir,
          k0_pay5 (View.readAt (Elt Ideal) arg1.view (Rect.unit (s := S6x1280x384) oc S1x1280x128.size ic).toLoadRect X1)⟩
            :: L))) x
      = G2 (arg1.view.read (Elt Ideal) X1) (arg2.view.read (Elt Ideal) X2)
          ((Rect.unit (s := S30x1536x128) off S1x256x128.size inb).emb x) := by
  rw [load_scl arg2 X2 b ⟨4 * ob.val, by omega⟩ o0 h0, load_scl arg2 X2 b ⟨4 * ob.val + 1, by omega⟩ o1 h1,
    load_scl arg2 X2 b ⟨4 * ob.val + 2, by omega⟩ o2 h2, load_scl arg2 X2 b ⟨4 * ob.val + 3, by omega⟩ o3 h3]
  have hv : View.readAt (Elt Ideal) arg10.view
        { off := ![p.val, 0], size := S256x128.size, stride := ![5, 1], inb := is }
        (arg10.view.writes (Elt Ideal) f (⟨Rect.unit (s := S1288x128) ![0, 0] S1280x128.size ir,
          k0_pay5 (View.readAt (Elt Ideal) arg1.view (Rect.unit (s := S6x1280x384) oc S1x1280x128.size ic).toLoadRect X1)⟩
            :: L)) = rowsAt (arg1.view.read (Elt Ideal) X1) b ob p := by
    funext y
    idx_vars y
    exact (load_rows arg10 f ir _ L p.val is y0 y1 (by omega)).trans (load_codes arg1 X1 b ob oc hc ic _ y1)
  rw [hv]
  idx_vars x
  obtain rfl : x0 = 0 := Subsingleton.elim _ _
  rw [j0_at, G2_emb _ _ b ob 0 p off hoff]

/-- A stored slab of the second half agrees with the slabs. -/
theorem piece_j1 (f : BufTy.Contents (Elt Ideal) arg10.view.ty) (L : List (View.Piece (Elt Ideal) S1288x128 .f32))
    (b : Fin 6) (ob : Fin 3) (p : Fin 5) {off o0 o1 o2 o3 oc : Fin 3 → Nat}
    (h0 : o0 = ![b.val, 0, 4 * ob.val]) (h1 : o1 = ![b.val, 0, 4 * ob.val + 1])
    (h2 : o2 = ![b.val, 0, 4 * ob.val + 2]) (h3 : o3 = ![b.val, 0, 4 * ob.val + 3])
    (hc : oc = ![b.val, 0, 128 * ob.val]) (hoff : off = ![10 * ob.val + 5 * 1 + p.val, 256 * b.val, 0])
    {inb i0 i1 i2 i3 ic ir is} (x : S1x256x128.Idx) :
    k0_pay12 (F := Ideal) k0_pay151 (k0_pay7
        (View.readAt (Elt Ideal) arg2.view (Rect.unit (s := S6x256x12) o0 S1x256x1.size i0).toLoadRect X2)
        (View.readAt (Elt Ideal) arg2.view (Rect.unit (s := S6x256x12) o1 S1x256x1.size i1).toLoadRect X2)
        (View.readAt (Elt Ideal) arg2.view (Rect.unit (s := S6x256x12) o2 S1x256x1.size i2).toLoadRect X2)
        (View.readAt (Elt Ideal) arg2.view (Rect.unit (s := S6x256x12) o3 S1x256x1.size i3).toLoadRect X2)) k0_pay8
      (View.readAt (Elt Ideal) arg10.view { off := ![5 + p.val, 0], size := S256x128.size, stride := ![5, 1], inb := is }
        (arg10.view.writes (Elt Ideal) f (⟨Rect.unit (s := S1288x128) ![0, 0] S1280x128.size ir,
          k0_pay5 (View.readAt (Elt Ideal) arg1.view (Rect.unit (s := S6x1280x384) oc S1x1280x128.size ic).toLoadRect X1)⟩
            :: L))) x
      = G2 (arg1.view.read (Elt Ideal) X1) (arg2.view.read (Elt Ideal) X2)
          ((Rect.unit (s := S30x1536x128) off S1x256x128.size inb).emb x) := by
  rw [load_scl arg2 X2 b ⟨4 * ob.val, by omega⟩ o0 h0, load_scl arg2 X2 b ⟨4 * ob.val + 1, by omega⟩ o1 h1,
    load_scl arg2 X2 b ⟨4 * ob.val + 2, by omega⟩ o2 h2, load_scl arg2 X2 b ⟨4 * ob.val + 3, by omega⟩ o3 h3]
  idx_vars x
  obtain rfl : x0 = 0 := Subsingleton.elim _ _
  rw [j1_at (arg1.view.read (Elt Ideal) X1) (arg2.view.read (Elt Ideal) X2) b ob p, G2_emb _ _ b ob 1 p off hoff]
  intro t l h
  refine (load_rows arg10 f ir _ L (5 + p.val) is t l (by omega)).trans
    ((load_codes arg1 X1 b ob oc hc ic _ l).trans ?_)
  dsimp only [rowsAt]
  refine congrArg (fun r => (arg1.view.read (Elt Ideal) X1 : FVec Ideal S6x1280x384 .fp8e5m2)
    (ix3 b r ⟨128 * ob.val + l.val, by omega⟩)) (Fin.ext ?_)
  show 5 * t.val + (5 + p.val) = 5 * (t.val + 1) + p.val
  omega

/-- Every piece a trip stores into the slabs agrees with them. -/
theorem slabs_ok (f : BufTy.Contents (Elt Ideal) arg10.view.ty) (k : Fin k0_t1_loop.trips) :
    ∀ pc ∈ trip_k0_t1.sl.HW_arg7_30 (F := Ideal) arg1 arg2 arg10 X1 X2 k f, ∀ x : pc.1.shape.Idx,
      pc.2 x = G2 (arg1.view.read (Elt Ideal) X1) (arg2.view.read (Elt Ideal) X2) (pc.1.emb x) := by
  have hk : k.val < 6 := Nat.lt_of_lt_of_le k.isLt k0_t1_abs.2.1
  have A0 := fun f L p off (h : off = _) inb is => piece_j0 arg1 arg2 arg10 X1 X2 f L ⟨k.val, hk⟩ 0 p (off := off)
    (k0_off4_eq k) (k0_off5_eq k) (k0_off6_eq k) (k0_off7_eq k) (k0_off3_eq k) h (inb := inb)
    (i0 := k0_off4_inb k) (i1 := k0_off5_inb k) (i2 := k0_off6_inb k) (i3 := k0_off7_inb k)
    (ic := k0_off3_inb k) (ir := inb_S1288x128_S1280x128_0_0) (is := is)
  have B0 := fun f L p off (h : off = _) inb is => piece_j1 arg1 arg2 arg10 X1 X2 f L ⟨k.val, hk⟩ 0 p (off := off)
    (k0_off4_eq k) (k0_off5_eq k) (k0_off6_eq k) (k0_off7_eq k) (k0_off3_eq k) h (inb := inb)
    (i0 := k0_off4_inb k) (i1 := k0_off5_inb k) (i2 := k0_off6_inb k) (i3 := k0_off7_inb k)
    (ic := k0_off3_inb k) (ir := inb_S1288x128_S1280x128_0_0) (is := is)
  have A1 := fun f L p off (h : off = _) inb is => piece_j0 arg1 arg2 arg10 X1 X2 f L ⟨k.val, hk⟩ 1 p (off := off)
    (k0_off19_eq k) (k0_off20_eq k) (k0_off21_eq k) (k0_off22_eq k) (k0_off18_eq k) h (inb := inb)
    (i0 := k0_off19_inb k) (i1 := k0_off20_inb k) (i2 := k0_off21_inb k) (i3 := k0_off22_inb k)
    (ic := k0_off18_inb k) (ir := inb_S1288x128_S1280x128_0_0) (is := is)
  have B1 := fun f L p off (h : off = _) inb is => piece_j1 arg1 arg2 arg10 X1 X2 f L ⟨k.val, hk⟩ 1 p (off := off)
    (k0_off19_eq k) (k0_off20_eq k) (k0_off21_eq k) (k0_off22_eq k) (k0_off18_eq k) h (inb := inb)
    (i0 := k0_off19_inb k) (i1 := k0_off20_inb k) (i2 := k0_off21_inb k) (i3 := k0_off22_inb k)
    (ic := k0_off18_inb k) (ir := inb_S1288x128_S1280x128_0_0) (is := is)
  have A2 := fun f L p off (h : off = _) inb is => piece_j0 arg1 arg2 arg10 X1 X2 f L ⟨k.val, hk⟩ 2 p (off := off)
    (k0_off34_eq k) (k0_off35_eq k) (k0_off36_eq k) (k0_off37_eq k) (k0_off33_eq k) h (inb := inb)
    (i0 := k0_off34_inb k) (i1 := k0_off35_inb k) (i2 := k0_off36_inb k) (i3 := k0_off37_inb k)
    (ic := k0_off33_inb k) (ir := inb_S1288x128_S1280x128_0_0) (is := is)
  have B2 := fun f L p off (h : off = _) inb is => piece_j1 arg1 arg2 arg10 X1 X2 f L ⟨k.val, hk⟩ 2 p (off := off)
    (k0_off34_eq k) (k0_off35_eq k) (k0_off36_eq k) (k0_off37_eq k) (k0_off33_eq k) h (inb := inb)
    (i0 := k0_off34_inb k) (i1 := k0_off35_inb k) (i2 := k0_off36_inb k) (i3 := k0_off37_inb k)
    (ic := k0_off33_inb k) (ir := inb_S1288x128_S1280x128_0_0) (is := is)
  unfold trip_k0_t1.sl.HW_arg7_30
  simp only [List.forall_mem_cons, List.not_mem_nil, false_imp_iff, implies_true, and_true]
  exact ⟨B2 _ _ 4 _ (k0_off47_eq k) _ _,
    A2 _ _ 4 _ (k0_off46_eq k) _ _,
    B2 _ _ 3 _ (k0_off45_eq k) _ _,
    A2 _ _ 3 _ (k0_off44_eq k) _ _,
    B2 _ _ 2 _ (k0_off43_eq k) _ _,
    A2 _ _ 2 _ (k0_off42_eq k) _ _,
    B2 _ _ 1 _ (k0_off41_eq k) _ _,
    A2 _ _ 1 _ (k0_off40_eq k) _ _,
    B2 _ _ 0 _ (k0_off39_eq k) _ _,
    A2 _ _ 0 _ (k0_off38_eq k) _ _,
    B1 _ _ 4 _ (k0_off32_eq k) _ _,
    A1 _ _ 4 _ (k0_off31_eq k) _ _,
    B1 _ _ 3 _ (k0_off30_eq k) _ _,
    A1 _ _ 3 _ (k0_off29_eq k) _ _,
    B1 _ _ 2 _ (k0_off28_eq k) _ _,
    A1 _ _ 2 _ (k0_off27_eq k) _ _,
    B1 _ _ 1 _ (k0_off26_eq k) _ _,
    A1 _ _ 1 _ (k0_off25_eq k) _ _,
    B1 _ _ 0 _ (k0_off24_eq k) _ _,
    A1 _ _ 0 _ (k0_off23_eq k) _ _,
    B0 _ _ 4 _ (k0_off17_eq k) _ _,
    A0 _ _ 4 _ (k0_off16_eq k) _ _,
    B0 _ _ 3 _ (k0_off15_eq k) _ _,
    A0 _ _ 3 _ (k0_off14_eq k) _ _,
    B0 _ _ 2 _ (k0_off13_eq k) _ _,
    A0 _ _ 2 _ (k0_off12_eq k) _ _,
    B0 _ _ 1 _ (k0_off11_eq k) _ _,
    A0 _ _ 1 _ (k0_off10_eq k) _ _,
    B0 _ _ 0 _ (k0_off9_eq k) _ _,
    A0 _ _ 0 _ (k0_off8_eq k) _ _⟩

end Slabs

end Cert.KernelIdeal.Hand

end
-- ==== Proof.Contract.lean ====
/-
  The contraction of one trip: its thirty slabs of gradients, stored and loaded back, against the thirty slabs of
  weights.
-/
module

public import proofs.«01_k».proof.Proof.Trip
public import Idealize.ShloMosaic.Lib.Pipeline.Value
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Slabs
variable (arg1 : Memref sig .tc .vmem S6x1280x384 .fp8e5m2) (arg2 : Memref sig .tc .vmem S6x256x12 .f32)
  (arg10 : Memref sig .tc .vmem S1288x128 .f32)
  (X1 : BufTy.Contents (Elt Ideal) arg1.view.ty) (X2 : BufTy.Contents (Elt Ideal) arg2.view.ty)

/-- Where a slab's block of one batch lies. -/
theorem mem_slab (n : Nat) (k : Fin k0_t1_loop.trips) {off : Fin 3 → Nat} (hoff : off = ![n, 256 * k.val, 0])
    {inb : ∀ a, off a + S1x256x128.size a ≤ S30x1536x128.size a} (y : S30x1536x128.Idx) :
    y ∈ (Rect.unit (s := S30x1536x128) off S1x256x128.size inb).set
      ↔ (y 0).val = n ∧ 256 * k.val ≤ (y 1).val ∧ (y 1).val < 256 * k.val + 256 := by
  subst hoff
  idx_vars y
  rw [Rect.mem_set_unit]
  constructor
  · intro h
    have a0 := h 0
    have a1 := h 1
    simp at a0 a1
    simp
    omega
  · intro h a
    simp at h
    fin_cases a <;> simp <;> omega

/-- A trip's pieces cover its batch's block of every slab. -/
theorem slabs_cover (f : BufTy.Contents (Elt Ideal) arg10.view.ty) (k : Fin k0_t1_loop.trips) (y : S30x1536x128.Idx)
    (h1 : 256 * k.val ≤ (y 1).val) (h2 : (y 1).val < 256 * k.val + 256) :
    ∃ pc ∈ trip_k0_t1.sl.HW_arg7_30 (F := Ideal) arg1 arg2 arg10 X1 X2 k f, y ∈ pc.1.set := by
  unfold trip_k0_t1.sl.HW_arg7_30
  simp only [List.exists_mem_cons_iff, List.not_mem_nil, false_and, exists_false, or_false]
  have e := fun (n : Nat) (off : Fin 3 → Nat) (hoff : off = ![n, 256 * k.val, 0])
    (inb : ∀ a, off a + S1x256x128.size a ≤ S30x1536x128.size a) (hn : (y 0).val = n) =>
      (mem_slab n k hoff (inb := inb) y).mpr ⟨hn, h1, h2⟩
  have hd : ∀ a : Fin 30, a.val = 29 ∨ a.val = 24 ∨ a.val = 28 ∨ a.val = 23 ∨ a.val = 27 ∨ a.val = 22 ∨ a.val = 26 ∨ a.val = 21 ∨
    a.val = 25 ∨ a.val = 20 ∨ a.val = 19 ∨ a.val = 14 ∨ a.val = 18 ∨ a.val = 13 ∨ a.val = 17 ∨ a.val = 12 ∨
    a.val = 16 ∨ a.val = 11 ∨ a.val = 15 ∨ a.val = 10 ∨ a.val = 9 ∨ a.val = 4 ∨ a.val = 8 ∨ a.val = 3 ∨ a.val = 7 ∨
    a.val = 2 ∨ a.val = 6 ∨ a.val = 1 ∨ a.val = 5 ∨ a.val = 0 := by decide
  refine (?_ : _ → _) (hd (y 0))
  exact
    Or.imp (e 29 _ (k0_off47_eq k) (k0_off47_inb k)) <| Or.imp (e 24 _ (k0_off46_eq k) (k0_off46_inb k)) <|
    Or.imp (e 28 _ (k0_off45_eq k) (k0_off45_inb k)) <| Or.imp (e 23 _ (k0_off44_eq k) (k0_off44_inb k)) <|
    Or.imp (e 27 _ (k0_off43_eq k) (k0_off43_inb k)) <| Or.imp (e 22 _ (k0_off42_eq k) (k0_off42_inb k)) <|
    Or.imp (e 26 _ (k0_off41_eq k) (k0_off41_inb k)) <| Or.imp (e 21 _ (k0_off40_eq k) (k0_off40_inb k)) <|
    Or.imp (e 25 _ (k0_off39_eq k) (k0_off39_inb k)) <| Or.imp (e 20 _ (k0_off38_eq k) (k0_off38_inb k)) <|
    Or.imp (e 19 _ (k0_off32_eq k) (k0_off32_inb k)) <| Or.imp (e 14 _ (k0_off31_eq k) (k0_off31_inb k)) <|
    Or.imp (e 18 _ (k0_off30_eq k) (k0_off30_inb k)) <| Or.imp (e 13 _ (k0_off29_eq k) (k0_off29_inb k)) <|
    Or.imp (e 17 _ (k0_off28_eq k) (k0_off28_inb k)) <| Or.imp (e 12 _ (k0_off27_eq k) (k0_off27_inb k)) <|
    Or.imp (e 16 _ (k0_off26_eq k) (k0_off26_inb k)) <| Or.imp (e 11 _ (k0_off25_eq k) (k0_off25_inb k)) <|
    Or.imp (e 15 _ (k0_off24_eq k) (k0_off24_inb k)) <| Or.imp (e 10 _ (k0_off23_eq k) (k0_off23_inb k)) <|
    Or.imp (e 9 _ (k0_off17_eq k) (k0_off17_inb k)) <| Or.imp (e 4 _ (k0_off16_eq k) (k0_off16_inb k)) <|
    Or.imp (e 8 _ (k0_off15_eq k) (k0_off15_inb k)) <| Or.imp (e 3 _ (k0_off14_eq k) (k0_off14_inb k)) <|
    Or.imp (e 7 _ (k0_off13_eq k) (k0_off13_inb k)) <| Or.imp (e 2 _ (k0_off12_eq k) (k0_off12_inb k)) <|
    Or.imp (e 6 _ (k0_off11_eq k) (k0_off11_inb k)) <| Or.imp (e 1 _ (k0_off10_eq k) (k0_off10_inb k)) <|
    Or.imp (e 5 _ (k0_off9_eq k) (k0_off9_inb k)) <| e 0 _ (k0_off8_eq k) (k0_off8_inb k)

/-- The contents of one slab's block of a batch. -/
def slabF (DY : FVec Ideal S6x1280x384 .fp8e5m2) (SC : FVec Ideal S6x256x12 .f32) (b : Fin 6) (n : Fin 30) :
    FVec Ideal S256x128 .bf16 := fun x =>
  have h0 : (x 0).val < 256 := (x 0).isLt
  G2 DY SC (ix3 n ⟨256 * b.val + (x 0).val, by omega⟩ ⟨(x 1).val, (x 1).isLt⟩)

/-- One slab of the weights. -/
def wslab (W : FVec Ideal S30x768x128 .bf16) (n : Fin 30) : FVec Ideal S768x128 .bf16 := fun x =>
  W (ix3 n ⟨(x 0).val, (x 0).isLt⟩ ⟨(x 1).val, (x 1).isLt⟩)

/-- Two lists of vectors of one shape agree when their heads and tails do. -/
theorem cc {S : Shape} {a b : S.Idx → EReal} {xs ys : List ((s : Shape) × (s.Idx → EReal))} (h : a = b) (ht : xs = ys) :
    (⟨S, a⟩ :: xs : List ((s : Shape) × (s.Idx → EReal))) = ⟨S, b⟩ :: ys := by rw [h, ht]

/-- A slab's block of a batch, loaded back after stores that agree with the slabs and cover it. -/
theorem load_slab_of (arg7 : Memref sig .tc .vmem S30x1536x128 .bf16)
    (DY : FVec Ideal S6x1280x384 .fp8e5m2) (SC : FVec Ideal S6x256x12 .f32)
    (L : List (View.Piece (Elt Ideal) S30x1536x128 .bf16))
    (hL : ∀ pc ∈ L, ∀ x : pc.1.shape.Idx, pc.2 x = G2 DY SC (pc.1.emb x))
    (b : Fin 6) (n : Fin 30)
    (hc : ∀ y : S30x1536x128.Idx, 256 * b.val ≤ (y 1).val → (y 1).val < 256 * b.val + 256 → ∃ pc ∈ L, y ∈ pc.1.set)
    (off : Fin 3 → Nat) (hoff : off = ![n.val, 256 * b.val, 0])
    (inb : ∀ a, off a + S1x256x128.size a ≤ S30x1536x128.size a) :
    shapeCast S256x128 (arg7.view.readCov L
        (Rect.unit (s := S30x1536x128) off S1x256x128.size inb).toLoadRect) shapeCasts_S1x256x128_S256x128
      = slabF DY SC b n := by
  subst hoff
  funext x
  idx_vars x
  have sc : ∀ V : FVec Ideal S1x256x128 .bf16,
      shapeCast S256x128 V shapeCasts_S1x256x128_S256x128 (ix2 x0 x1) = V (ix3 0 x0 x1) := by
    intro V
    pointwise
  refine (sc _).trans ?_
  have e : (Rect.unit (s := S30x1536x128) ![n.val, 256 * b.val, 0] S1x256x128.size inb).toLoadRect.idx (ix3 0 x0 x1)
      = ix3 n ⟨256 * b.val + x0.val, by omega⟩ x1 := by
    funext a
    apply Fin.ext
    fin_cases a <;> simp [Rect.unit, LoadRect.idx]
  have key := View.read_writes_apply_of_pieces arg7.view arg7.view.junk (G2 DY SC) L hL
    (ix3 n ⟨256 * b.val + x0.val, by omega⟩ x1) (hc _ (by simp) (by simp))
  exact (congrArg (arg7.view.read (Elt Ideal) (arg7.view.writes (Elt Ideal) arg7.view.junk L)) e).trans key

/-- A slab's block of a batch, loaded back after the trip's stores. -/
theorem load_slab (arg7 : Memref sig .tc .vmem S30x1536x128 .bf16) (f : BufTy.Contents (Elt Ideal) arg10.view.ty)
    (k : Fin k0_t1_loop.trips) (hk : k.val < 6) (n : Fin 30) (off : Fin 3 → Nat) (hoff : off = ![n.val, 256 * k.val, 0])
    (inb : ∀ a, off a + S1x256x128.size a ≤ S30x1536x128.size a) :
    shapeCast S256x128 (arg7.view.readCov (trip_k0_t1.sl.HW_arg7_30 (F := Ideal) arg1 arg2 arg10 X1 X2 k f)
        (Rect.unit (s := S30x1536x128) off S1x256x128.size inb).toLoadRect) shapeCasts_S1x256x128_S256x128
      = slabF (arg1.view.read (Elt Ideal) X1) (arg2.view.read (Elt Ideal) X2) ⟨k.val, hk⟩ n :=
  load_slab_of arg7 _ _ _ (slabs_ok arg1 arg2 arg10 X1 X2 f k) ⟨k.val, hk⟩ n
    (fun y h1 h2 => slabs_cover arg1 arg2 arg10 X1 X2 f k y h1 h2) off hoff inb

end Slabs

end Cert.KernelIdeal.Hand

end
-- ==== Proof.Concat.lean ====
/-
  The two operands of one trip's contraction, read at an index: the thirty slabs of gradients of the batch side by side,
  and the thirty slabs of weights side by side.
-/
module

public import proofs.«01_k».proof.Proof.Contract

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Slabs
variable (arg1 : Memref sig .tc .vmem S6x1280x384 .fp8e5m2) (arg2 : Memref sig .tc .vmem S6x256x12 .f32)
  (arg10 : Memref sig .tc .vmem S1288x128 .f32)
  (X1 : BufTy.Contents (Elt Ideal) arg1.view.ty) (X2 : BufTy.Contents (Elt Ideal) arg2.view.ty)

/-- Concatenations of equal lists are equal. -/
theorem concat_congr (t : Shape) (a : Fin t.rank) {xs ys : List ((s : Shape) × (s.Idx → EReal))} (e : xs = ys) (h) :
    concatenate t a xs h = concatenate t a ys (e ▸ h) := by
  subst e; rfl

/-- The left operand of a batch's contraction: the thirty slabs side by side. -/
theorem lhs_at (arg7 : Memref sig .tc .vmem S30x1536x128 .bf16) (f : BufTy.Contents (Elt Ideal) arg10.view.ty)
    (k : Fin k0_t1_loop.trips) (hk : k.val < 6) (t : Fin 256) (r : Fin 3840) :
    trip_k0_t1.sl.v974 (F := Ideal) arg1 arg2 arg7 arg10 X1 X2 k f (ix2 t r)
      = slabF (arg1.view.read (Elt Ideal) X1) (arg2.view.read (Elt Ideal) X2) ⟨k.val, hk⟩ ⟨r.val / 128, by omega⟩
          (ix2 t ⟨r.val % 128, by omega⟩) := by
  have H := load_slab arg1 arg2 arg10 X1 X2 arg7 f k hk
  have hl :=
    cc (H 0 _ (k0_off8_eq k) (k0_off8_inb k)) <| cc (H 1 _ (k0_off10_eq k) (k0_off10_inb k)) <|
    cc (H 2 _ (k0_off12_eq k) (k0_off12_inb k)) <| cc (H 3 _ (k0_off14_eq k) (k0_off14_inb k)) <|
    cc (H 4 _ (k0_off16_eq k) (k0_off16_inb k)) <| cc (H 5 _ (k0_off9_eq k) (k0_off9_inb k)) <|
    cc (H 6 _ (k0_off11_eq k) (k0_off11_inb k)) <| cc (H 7 _ (k0_off13_eq k) (k0_off13_inb k)) <|
    cc (H 8 _ (k0_off15_eq k) (k0_off15_inb k)) <| cc (H 9 _ (k0_off17_eq k) (k0_off17_inb k)) <|
    cc (H 10 _ (k0_off23_eq k) (k0_off23_inb k)) <| cc (H 11 _ (k0_off25_eq k) (k0_off25_inb k)) <|
    cc (H 12 _ (k0_off27_eq k) (k0_off27_inb k)) <| cc (H 13 _ (k0_off29_eq k) (k0_off29_inb k)) <|
    cc (H 14 _ (k0_off31_eq k) (k0_off31_inb k)) <| cc (H 15 _ (k0_off24_eq k) (k0_off24_inb k)) <|
    cc (H 16 _ (k0_off26_eq k) (k0_off26_inb k)) <| cc (H 17 _ (k0_off28_eq k) (k0_off28_inb k)) <|
    cc (H 18 _ (k0_off30_eq k) (k0_off30_inb k)) <| cc (H 19 _ (k0_off32_eq k) (k0_off32_inb k)) <|
    cc (H 20 _ (k0_off38_eq k) (k0_off38_inb k)) <| cc (H 21 _ (k0_off40_eq k) (k0_off40_inb k)) <|
    cc (H 22 _ (k0_off42_eq k) (k0_off42_inb k)) <| cc (H 23 _ (k0_off44_eq k) (k0_off44_inb k)) <|
    cc (H 24 _ (k0_off46_eq k) (k0_off46_inb k)) <| cc (H 25 _ (k0_off39_eq k) (k0_off39_inb k)) <|
    cc (H 26 _ (k0_off41_eq k) (k0_off41_inb k)) <| cc (H 27 _ (k0_off43_eq k) (k0_off43_inb k)) <|
    cc (H 28 _ (k0_off45_eq k) (k0_off45_inb k)) <| cc (H 29 _ (k0_off47_eq k) (k0_off47_inb k)) <| (@rfl _ [])
  refine (congrFun (concat_congr S256x3840 1 (hl.trans (show _ = List.ofFn fun n : Fin 30 =>
    (⟨S256x128, slabF (arg1.view.read (Elt Ideal) X1) (arg2.view.read (Elt Ideal) X2) ⟨k.val, hk⟩ n⟩ :
      (s : Shape) × (s.Idx → EReal)) from rfl)) _) (ix2 t r)).trans ?_
  exact concatenate_ofFn_apply (s₁ := S256x128) (t := S256x3840) 1
    (fun n : Fin 30 => slabF (arg1.view.read (Elt Ideal) X1) (arg2.view.read (Elt Ideal) X2) ⟨k.val, hk⟩ n) _ rfl 128 rfl
    (ix2 t r) ⟨r.val / 128, by omega⟩ rfl (ix2 t ⟨r.val % 128, by omega⟩) rfl
    (by
      intro b hb
      fin_cases b
      · rfl
      · exact absurd rfl hb)

/-- The right operand of every batch's contraction: the thirty weight slabs side by side. -/
theorem rhs_at (arg8 : Memref sig .tc .vmem S30x768x128 .bf16) (X8 : BufTy.Contents (Elt Ideal) arg8.view.ty)
    (i : Fin 768) (r : Fin 3840) :
    trip_k0_t1.sl.v1035 (F := Ideal) arg8 X8 (ix2 i r)
      = wslab (arg8.view.read (Elt Ideal) X8) ⟨r.val / 128, by omega⟩ (ix2 i ⟨r.val % 128, by omega⟩) := by
  have H := fun (n : Fin 30) (inb : ∀ a, ![n.val, 0, 0] a + S1x768x128.size a ≤ S30x768x128.size a) =>
    show shapeCast S768x128 (View.readAt (Elt Ideal) arg8.view
        (Rect.unit (s := S30x768x128) ![n.val, 0, 0] S1x768x128.size inb).toLoadRect X8) shapeCasts_S1x768x128_S768x128
      = wslab (arg8.view.read (Elt Ideal) X8) n by
    funext x
    idx_vars x
    have sc : ∀ V : FVec Ideal S1x768x128 .bf16,
        shapeCast S768x128 V shapeCasts_S1x768x128_S768x128 (ix2 x0 x1) = V (ix3 0 x0 x1) := by
      intro V
      pointwise
    refine (sc _).trans ?_
    refine congrArg (arg8.view.read (Elt Ideal) X8) (funext fun a => Fin.ext ?_)
    fin_cases a <;> simp [Rect.unit, LoadRect.idx]
  have hl :=
    cc (H 0 inb_S30x768x128_S1x768x128_0_0_0) <| cc (H 1 inb_S30x768x128_S1x768x128_1_0_0) <|
    cc (H 2 inb_S30x768x128_S1x768x128_2_0_0) <| cc (H 3 inb_S30x768x128_S1x768x128_3_0_0) <|
    cc (H 4 inb_S30x768x128_S1x768x128_4_0_0) <| cc (H 5 inb_S30x768x128_S1x768x128_5_0_0) <|
    cc (H 6 inb_S30x768x128_S1x768x128_6_0_0) <| cc (H 7 inb_S30x768x128_S1x768x128_7_0_0) <|
    cc (H 8 inb_S30x768x128_S1x768x128_8_0_0) <| cc (H 9 inb_S30x768x128_S1x768x128_9_0_0) <|
    cc (H 10 inb_S30x768x128_S1x768x128_10_0_0) <| cc (H 11 inb_S30x768x128_S1x768x128_11_0_0) <|
    cc (H 12 inb_S30x768x128_S1x768x128_12_0_0) <| cc (H 13 inb_S30x768x128_S1x768x128_13_0_0) <|
    cc (H 14 inb_S30x768x128_S1x768x128_14_0_0) <| cc (H 15 inb_S30x768x128_S1x768x128_15_0_0) <|
    cc (H 16 inb_S30x768x128_S1x768x128_16_0_0) <| cc (H 17 inb_S30x768x128_S1x768x128_17_0_0) <|
    cc (H 18 inb_S30x768x128_S1x768x128_18_0_0) <| cc (H 19 inb_S30x768x128_S1x768x128_19_0_0) <|
    cc (H 20 inb_S30x768x128_S1x768x128_20_0_0) <| cc (H 21 inb_S30x768x128_S1x768x128_21_0_0) <|
    cc (H 22 inb_S30x768x128_S1x768x128_22_0_0) <| cc (H 23 inb_S30x768x128_S1x768x128_23_0_0) <|
    cc (H 24 inb_S30x768x128_S1x768x128_24_0_0) <| cc (H 25 inb_S30x768x128_S1x768x128_25_0_0) <|
    cc (H 26 inb_S30x768x128_S1x768x128_26_0_0) <| cc (H 27 inb_S30x768x128_S1x768x128_27_0_0) <|
    cc (H 28 inb_S30x768x128_S1x768x128_28_0_0) <| cc (H 29 inb_S30x768x128_S1x768x128_29_0_0) <| (@rfl _ [])
  refine (congrFun (concat_congr S768x3840 1 (hl.trans (show _ = List.ofFn fun n : Fin 30 =>
    (⟨S768x128, wslab (arg8.view.read (Elt Ideal) X8) n⟩ :
      (s : Shape) × (s.Idx → EReal)) from rfl))
    concatenates_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x128_S768x3840_d1) (ix2 i r)).trans ?_
  exact concatenate_ofFn_apply (s₁ := S768x128) (t := S768x3840) 1
    (fun n : Fin 30 => wslab (arg8.view.read (Elt Ideal) X8) n) _ rfl 128 rfl
    (ix2 i r) ⟨r.val / 128, by omega⟩ rfl (ix2 i ⟨r.val % 128, by omega⟩) rfl
    (by
      intro b hb
      fin_cases b
      · rfl
      · exact absurd rfl hb)

end Slabs

end Cert.KernelIdeal.Hand

end
-- ==== Proof.Loop.lean ====
/-
  The kernel's loop over the six batches at the extended reals: what it has written before each trip, in terms of the
  contents of the arguments and of the weights' scratch buffer, as an invariant of the loop.
-/
module

public import proofs.«01_k».proof.Proof.Concat
public import proofs.«01_k».proof.Proof.Gen.KernelIdeal.Frame
public import proofs.«01_k».proof.Proof.Gen.KernelIdeal.Loops
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One entry of the input's gradient: a batch's row of slabs against a row of weight slabs. -/
def dxv (DY : FVec Ideal S6x1280x384 .fp8e5m2) (SC : FVec Ideal S6x256x12 .f32) (W : FVec Ideal S30x768x128 .bf16)
    (b : Fin 6) (t : Fin 256) (i : Fin 768) : EReal :=
  ∑ r : Fin 3840, slabF DY SC b ⟨r.val / 128, by omega⟩ (ix2 t ⟨r.val % 128, by omega⟩)
    * wslab W ⟨r.val / 128, by omega⟩ (ix2 i ⟨r.val % 128, by omega⟩)

/-- What the loop has written before trip `k`: the input's gradient of the batches before `k`, their blocks of the
    slabs, and their blocks of the transposed input. -/
structure Done (X : FVec Ideal S6x256x768 .bf16) (DY : FVec Ideal S6x1280x384 .fp8e5m2) (SC : FVec Ideal S6x256x12 .f32)
    (W : FVec Ideal S30x768x128 .bf16) (k : Nat) (g5 : FVec Ideal S6x256x768 .bf16)
    (g7 : FVec Ideal S30x1536x128 .bf16) (g9 : FVec Ideal S768x1536 .bf16) : Prop where
  dx : ∀ (b : Fin 6) (t : Fin 256) (i : Fin 768), b.val < k → g5 (ix3 b t i) = dxv DY SC W b t i
  slab : ∀ y : S30x1536x128.Idx, (y 1).val < 256 * k → g7 y = G2 DY SC y
  xt : ∀ (i : Fin 768) (r : Fin 1536), r.val < 256 * k →
    g9 (ix2 i r) = X (ix3 ⟨r.val / 256, by omega⟩ ⟨r.val % 256, by omega⟩ i)

/-- The contraction's payload at an index. -/
theorem pay_dx (A : FVec Ideal S256x3840 .bf16) (B : FVec Ideal S768x3840 .bf16) (t : Fin 256) (i : Fin 768) :
    k0_pay152 (F := Ideal) (k0_pay112 A B) (ix3 0 t i) = ∑ r : Fin 3840, A (ix2 t r) * B (ix2 i r) := by
  pointwise [k0_pay152, k0_pay112]

/-- The transposed block's payload at an index. -/
theorem pay_xt (x : FVec Ideal S1x256x768 .bf16) (i : Fin 768) (t : Fin 256) :
    k0_pay4 (F := Ideal) x (ix2 i t) = x (ix3 0 t i) := by
  pointwise [k0_pay4]

section Trip
variable (𝒱 : Variants) (c : Dev nD) (bd : Option 𝒱.V)
  (arg0 : Memref sig .tc .vmem S6x256x768 .bf16) (harg0 : arg0.IsWhole)
  (arg1 : Memref sig .tc .vmem S6x1280x384 .fp8e5m2) (harg1 : arg1.IsWhole)
  (arg2 : Memref sig .tc .vmem S6x256x12 .f32) (harg2 : arg2.IsWhole)
  (arg3 : Memref sig .tc .vmem S10x768x384 .fp8e4m3) (harg3 : arg3.IsWhole)
  (arg4 : Memref sig .tc .vmem S1x384 .f32) (harg4 : arg4.IsWhole)
  (arg5 : Memref sig .tc .vmem S6x256x768 .bf16) (harg5 : arg5.IsWhole)
  (arg6 : Memref sig .tc .vmem S10x768x384 .f32) (harg6 : arg6.IsWhole)
  (arg7 : Memref sig .tc .vmem S30x1536x128 .bf16) (harg7 : arg7.IsWhole)
  (arg8 : Memref sig .tc .vmem S30x768x128 .bf16) (harg8 : arg8.IsWhole)
  (arg9 : Memref sig .tc .vmem S768x1536 .bf16) (harg9 : arg9.IsWhole)
  (arg10 : Memref sig .tc .vmem S1288x128 .f32) (harg10 : arg10.IsWhole)
  (v269 : FVec Ideal S768x128 .bf16)
  (X0 : BufTy.Contents (Elt Ideal) arg0.view.ty) (X1 : BufTy.Contents (Elt Ideal) arg1.view.ty)
  (X2 : BufTy.Contents (Elt Ideal) arg2.view.ty) (X8 : BufTy.Contents (Elt Ideal) arg8.view.ty)
  (k : Fin k0_t1_loop.trips)
  (f5 : BufTy.Contents (Elt Ideal) arg5.view.ty) (f7 : BufTy.Contents (Elt Ideal) arg7.view.ty)
  (f9 : BufTy.Contents (Elt Ideal) arg9.view.ty) (f10 : BufTy.Contents (Elt Ideal) arg10.view.ty)

/-- The trip's one store into the input's gradient. -/
theorem trip_list5 :
    (trip_k0_t1 (F := Ideal) 𝒱 c bd
      arg0 harg0 arg1 harg1 arg2 harg2 arg3 harg3 arg4 harg4 arg5 harg5 arg6 harg6 arg7 harg7 arg8 harg8 arg9 harg9 arg10 harg10 v269
      X0 X1 X2 X8 k).1 f5 f7 f9 f10
      = [⟨Rect.unit (k0_off1 k) S1x256x768.size (k0_off1_inb k),
          k0_pay152 (k0_pay112 (trip_k0_t1.sl.v974 arg1 arg2 arg7 arg10 X1 X2 k f10) (trip_k0_t1.sl.v1035 arg8 X8))⟩] := by
  unfold trip_k0_t1
  rfl

/-- The trip's thirty stores into the slabs. -/
theorem trip_list7 :
    (trip_k0_t1 (F := Ideal) 𝒱 c bd
      arg0 harg0 arg1 harg1 arg2 harg2 arg3 harg3 arg4 harg4 arg5 harg5 arg6 harg6 arg7 harg7 arg8 harg8 arg9 harg9 arg10 harg10 v269
      X0 X1 X2 X8 k).2.1 f5 f7 f9 f10
      = trip_k0_t1.sl.HW_arg7_30 arg1 arg2 arg10 X1 X2 k f10 := by
  unfold trip_k0_t1
  rfl

/-- The trip's one store into the transposed input. -/
theorem trip_list9 :
    (trip_k0_t1 (F := Ideal) 𝒱 c bd
      arg0 harg0 arg1 harg1 arg2 harg2 arg3 harg3 arg4 harg4 arg5 harg5 arg6 harg6 arg7 harg7 arg8 harg8 arg9 harg9 arg10 harg10 v269
      X0 X1 X2 X8 k).2.2.1 f5 f7 f9 f10
      = [⟨Rect.unit (k0_off2 k) S768x256.size (k0_off2_inb k),
          k0_pay4 (View.readAt (Elt Ideal) arg0.view
            (Rect.unit (s := S6x256x768) (k0_off1 k) S1x256x768.size (k0_off1_inb k)).toLoadRect X0)⟩] := by
  unfold trip_k0_t1
  rfl

end Trip

/-- One trip carries what the loop has written on to its batch. -/
theorem Done.step (arg0 : Memref sig .tc .vmem S6x256x768 .bf16) (arg1 : Memref sig .tc .vmem S6x1280x384 .fp8e5m2)
    (arg2 : Memref sig .tc .vmem S6x256x12 .f32) (arg5 : Memref sig .tc .vmem S6x256x768 .bf16)
    (arg7 : Memref sig .tc .vmem S30x1536x128 .bf16) (arg8 : Memref sig .tc .vmem S30x768x128 .bf16)
    (arg9 : Memref sig .tc .vmem S768x1536 .bf16) (arg10 : Memref sig .tc .vmem S1288x128 .f32)
    (X0 : BufTy.Contents (Elt Ideal) arg0.view.ty) (X1 : BufTy.Contents (Elt Ideal) arg1.view.ty)
    (X2 : BufTy.Contents (Elt Ideal) arg2.view.ty) (X8 : BufTy.Contents (Elt Ideal) arg8.view.ty)
    (k : Fin k0_t1_loop.trips)
    (f5 : BufTy.Contents (Elt Ideal) arg5.view.ty) (f7 : BufTy.Contents (Elt Ideal) arg7.view.ty)
    (f9 : BufTy.Contents (Elt Ideal) arg9.view.ty) (f10 : BufTy.Contents (Elt Ideal) arg10.view.ty)
    (h : Done (arg0.view.read (Elt Ideal) X0) (arg1.view.read (Elt Ideal) X1) (arg2.view.read (Elt Ideal) X2)
      (arg8.view.read (Elt Ideal) X8) k.val (arg5.view.read (Elt Ideal) f5) (arg7.view.read (Elt Ideal) f7)
      (arg9.view.read (Elt Ideal) f9)) :
    Done (arg0.view.read (Elt Ideal) X0) (arg1.view.read (Elt Ideal) X1) (arg2.view.read (Elt Ideal) X2)
      (arg8.view.read (Elt Ideal) X8) (k.val + 1)
      (arg5.view.read (Elt Ideal) (arg5.view.writes (Elt Ideal) f5
        [⟨Rect.unit (k0_off1 k) S1x256x768.size (k0_off1_inb k),
          k0_pay152 (k0_pay112 (trip_k0_t1.sl.v974 arg1 arg2 arg7 arg10 X1 X2 k f10) (trip_k0_t1.sl.v1035 arg8 X8))⟩]))
      (arg7.view.read (Elt Ideal) (arg7.view.writes (Elt Ideal) f7
        (trip_k0_t1.sl.HW_arg7_30 arg1 arg2 arg10 X1 X2 k f10)))
      (arg9.view.read (Elt Ideal) (arg9.view.writes (Elt Ideal) f9
        [⟨Rect.unit (k0_off2 k) S768x256.size (k0_off2_inb k),
          k0_pay4 (View.readAt (Elt Ideal) arg0.view
            (Rect.unit (s := S6x256x768) (k0_off1 k) S1x256x768.size (k0_off1_inb k)).toLoadRect X0)⟩])) := by
  have hk : k.val < 6 := Nat.lt_of_lt_of_le k.isLt k0_t1_abs.2.1
  refine ⟨fun b t i hb => ?_, fun y hy => ?_, fun i r hr => ?_⟩
  · by_cases e : b.val = k.val
    · obtain rfl : b = ⟨k.val, hk⟩ := Fin.ext e
      have hx : (Rect.unit (s := S6x256x768) (k0_off1 k) S1x256x768.size (k0_off1_inb k)).emb (ix3 0 t i)
          = ix3 ⟨k.val, hk⟩ t i := by
        funext a
        apply Fin.ext
        have e := k0_off1_eq k
        fin_cases a <;> simp [Rect.unit, Rect.emb, e]
      refine (View.read_writes_cons_hit arg5.view f5 _ _ [] (ix3 0 t i) _ hx).trans ?_
      rw [pay_dx]
      unfold dxv
      exact Finset.sum_congr rfl fun r _ => congrArg₂ (· * ·) (lhs_at arg1 arg2 arg10 X1 X2 arg7 f10 k hk t r)
        (rhs_at arg8 X8 i r)
    · refine (View.read_writes_cons_miss_of_axis arg5.view f5 _ [] _ 0 k.val 1 ?_ rfl rfl ?_).trans
        (h.dx b t i (by omega))
      · exact congrFun (k0_off1_eq k) 0
      · show b.val < k.val ∨ k.val + 1 ≤ b.val
        omega
  · by_cases e : ∃ pc ∈ trip_k0_t1.sl.HW_arg7_30 (F := Ideal) arg1 arg2 arg10 X1 X2 k f10, y ∈ pc.1.set
    · exact View.read_writes_apply_of_pieces arg7.view f7 _ _ (slabs_ok arg1 arg2 arg10 X1 X2 f10 k) y e
    · have hlt : (y 1).val < 256 * k.val := by
        by_contra hge
        exact e (slabs_cover arg1 arg2 arg10 X1 X2 f10 k y (by omega) (by omega))
      refine (View.read_writes_apply_of_forall_not_mem arg7.view f7 y _ fun pc hpc hy => e ⟨pc, hpc, hy⟩).trans
        (h.slab y hlt)
  · by_cases e : r.val < 256 * k.val
    · refine (View.read_writes_cons_miss_of_axis arg9.view f9 _ [] _ 1 (256 * k.val) 256 ?_ rfl rfl ?_).trans
        (h.xt i r e)
      · exact congrFun (k0_off2_eq k) 1
      · show r.val < 256 * k.val ∨ 256 * k.val + 256 ≤ r.val
        omega
    · have hx : (Rect.unit (s := S768x1536) (k0_off2 k) S768x256.size (k0_off2_inb k)).emb
          (ix2 i ⟨r.val - 256 * k.val, by omega⟩) = ix2 i r := by
        funext a
        apply Fin.ext
        have e' := k0_off2_eq k
        fin_cases a <;> simp [Rect.unit, Rect.emb, e'] <;> omega
      refine (View.read_writes_cons_hit arg9.view f9 _ _ [] (ix2 i ⟨r.val - 256 * k.val, by omega⟩) _ hx).trans ?_
      rw [pay_xt]
      refine congrArg (arg0.view.read (Elt Ideal) X0) (funext fun a => Fin.ext ?_)
      have e' := k0_off1_eq k
      fin_cases a <;> simp [Rect.unit, LoadRect.idx, e'] <;> omega

/-- Nothing is asked of the written buffers before the first trip. -/
theorem Done.zero (X : FVec Ideal S6x256x768 .bf16) (DY : FVec Ideal S6x1280x384 .fp8e5m2)
    (SC : FVec Ideal S6x256x12 .f32) (W : FVec Ideal S30x768x128 .bf16) (g5 : FVec Ideal S6x256x768 .bf16)
    (g7 : FVec Ideal S30x1536x128 .bf16) (g9 : FVec Ideal S768x1536 .bf16) : Done X DY SC W 0 g5 g7 g9 :=
  ⟨fun _ _ _ h => absurd h (by omega), fun _ h => absurd h (by omega), fun _ _ h => absurd h (by omega)⟩

/-- The loop makes six trips. -/
theorem trips_eq : k0_t1_loop.trips = 6 := by decide +kernel

/-- The resource algebra of the run. -/
local notation "𝕄I" => MT nD τ sig Unit (Elt Ideal) ℕ (UR sig nD τ) ℕ

/-- The invariant before trip `k`: the arguments and the weights' scratch as they were; the input's gradient, the slabs
    and the transposed input at contents that `Done` describes; the last scratch buffer at some contents. -/
abbrev invDone (c : Dev nD)
    (arg0 : Memref sig .tc .vmem S6x256x768 .bf16) (arg1 : Memref sig .tc .vmem S6x1280x384 .fp8e5m2)
    (arg2 : Memref sig .tc .vmem S6x256x12 .f32) (arg5 : Memref sig .tc .vmem S6x256x768 .bf16)
    (arg7 : Memref sig .tc .vmem S30x1536x128 .bf16) (arg8 : Memref sig .tc .vmem S30x768x128 .bf16)
    (arg9 : Memref sig .tc .vmem S768x1536 .bf16) (arg10 : Memref sig .tc .vmem S1288x128 .f32)
    (X0 : BufTy.Contents (Elt Ideal) arg0.view.ty) (X1 : BufTy.Contents (Elt Ideal) arg1.view.ty)
    (X2 : BufTy.Contents (Elt Ideal) arg2.view.ty) (X8 : BufTy.Contents (Elt Ideal) arg8.view.ty)
    (k : ℕ) (_u : PUnit) : sProp 𝕄I :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg8.view.loc (c : Thread nD τ) ↦[arg8.view.set]{fullShare} X8)
    ∗ (∃ f5 f7 f9, (arg5.view.loc (c : Thread nD τ) ↦[arg5.view.set]{fullShare} f5) ∗ (arg7.view.loc (c : Thread nD τ) ↦[arg7.view.set]{fullShare} f7)
      ∗ (arg9.view.loc (c : Thread nD τ) ↦[arg9.view.set]{fullShare} f9)
      ∗ ⌜0 < k → Done (arg0.view.read (Elt Ideal) X0) (arg1.view.read (Elt Ideal) X1) (arg2.view.read (Elt Ideal) X2)
          (arg8.view.read (Elt Ideal) X8) k (arg5.view.read (Elt Ideal) f5) (arg7.view.read (Elt Ideal) f7)
          (arg9.view.read (Elt Ideal) f9)⌝)
    ∗ (∃ f10, (arg10.view.loc (c : Thread nD τ) ↦[arg10.view.set]{fullShare} f10)))

set_option maxHeartbeats 4000000 in
set_option warn.classDefReducibility false in
/-- The loop by this invariant: a trip runs as the generated trip theorem says, and `Done.step` carries the fact on. -/
@[sl_loop] def loopDone (𝒱 : Variants) (c : Dev nD) (bd : Option 𝒱.V) (E : Set ℕ)
    (arg0 : Memref sig .tc .vmem S6x256x768 .bf16) (harg0 : arg0.IsWhole)
    (arg1 : Memref sig .tc .vmem S6x1280x384 .fp8e5m2) (harg1 : arg1.IsWhole)
    (arg2 : Memref sig .tc .vmem S6x256x12 .f32) (harg2 : arg2.IsWhole)
    (arg3 : Memref sig .tc .vmem S10x768x384 .fp8e4m3) (harg3 : arg3.IsWhole)
    (arg4 : Memref sig .tc .vmem S1x384 .f32) (harg4 : arg4.IsWhole)
    (arg5 : Memref sig .tc .vmem S6x256x768 .bf16) (harg5 : arg5.IsWhole)
    (arg6 : Memref sig .tc .vmem S10x768x384 .f32) (harg6 : arg6.IsWhole)
    (arg7 : Memref sig .tc .vmem S30x1536x128 .bf16) (harg7 : arg7.IsWhole)
    (arg8 : Memref sig .tc .vmem S30x768x128 .bf16) (harg8 : arg8.IsWhole)
    (arg9 : Memref sig .tc .vmem S768x1536 .bf16) (harg9 : arg9.IsWhole)
    (arg10 : Memref sig .tc .vmem S1288x128 .f32) (harg10 : arg10.IsWhole)
    (v269 : FVec Ideal S768x128 .bf16)
    (X0 : BufTy.Contents (Elt Ideal) arg0.view.ty) (X1 : BufTy.Contents (Elt Ideal) arg1.view.ty)
    (X2 : BufTy.Contents (Elt Ideal) arg2.view.ty) (X8 : BufTy.Contents (Elt Ideal) arg8.view.ty) :
    LoopInvTy_k0_t1 (F := Ideal) Unit ℕ (UR sig nD τ) ℕ 𝒱 c bd E
      arg0 harg0 arg1 harg1 arg2 harg2 arg3 harg3 arg4 harg4 arg5 harg5 arg6 harg6 arg7 harg7 arg8 harg8 arg9 harg9 arg10 harg10 v269 where
  inv := invDone c arg0 arg1 arg2 arg5 arg7 arg8 arg9 arg10 X0 X1 X2 X8
  step k acc := by
    iintro ⟨H0, H1, H2, H8, ⟨%f5, %f7, %f9, H5, H7, H9, %hD⟩, ⟨%f10, H10⟩⟩
    iapply (wp_wand_r Idealize.ShloMosaic.frame (wpE (defs₀ (F := Ideal)) 𝒱 (c : Thread nD τ) bd) E)
    isplitl [H0 H1 H2 H8 H5 H7 H9 H10]
    · iapply ((trip_k0_t1 (F := Ideal) 𝒱 c bd arg0 harg0 arg1 harg1 arg2 harg2 arg3 harg3 arg4 harg4 arg5 harg5 arg6 harg6 arg7 harg7 arg8 harg8 arg9 harg9 arg10 harg10 v269 X0 X1 X2 X8 k).2.2.2.2 E f5 f7 f9 f10)
      isplitl [H0]; · iexact H0
      isplitl [H1]; · iexact H1
      isplitl [H2]; · iexact H2
      isplitl [H8]; · iexact H8
      isplitl [H5]; · iexact H5
      isplitl [H7]; · iexact H7
      isplitl [H9]; · iexact H9
      iexact H10
    · iintro %_ ⟨H0, H1, H2, H8, H5, H7, H9, H10⟩
      isplitl [H0]; · iexact H0
      isplitl [H1]; · iexact H1
      isplitl [H2]; · iexact H2
      isplitl [H8]; · iexact H8
      isplitl [H5 H7 H9]
      · iexists _, _, _
        isplitl [H5]; · iexact H5
        isplitl [H7]; · iexact H7
        isplitl [H9]; · iexact H9
        ipureintro
        rw [trip_list5, trip_list7, trip_list9]
        intro _
        refine Done.step arg0 arg1 arg2 arg5 arg7 arg8 arg9 arg10 X0 X1 X2 X8 k f5 f7 f9 f10 ?_
        by_cases h : 0 < k.val
        · exact hD h
        · rw [show k.val = 0 by omega]
          exact Done.zero _ _ _ _ _ _ _
      iexists _; iexact H10

end Cert.KernelIdeal.Hand

end
-- ==== Proof.Pieces.lean ====
/-
  What the kernel stores outside its loop, piece by piece: the weights times their scales before it, and after it the
  product of the transposed input with the slabs. Each stored piece agrees with one array, and the pieces cover it.
-/
module

public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The scaled weights, in the kernel's slabs: slab `10 ob + jp` holds the columns `128 ob …` of tap `jp`. -/
def wtA (WC : FVec Ideal S10x768x384 .fp8e4m3) (WS : FVec Ideal S1x384 .f32) : FVec Ideal S30x768x128 .bf16 := fun y =>
  have h0 : (y 0).val < 30 := (y 0).isLt
  have h2 : (y 2).val < 128 := (y 2).isLt
  WC (ix3 ⟨(y 0).val % 10, by omega⟩ ⟨(y 1).val, (y 1).isLt⟩ ⟨128 * ((y 0).val / 10) + (y 2).val, by omega⟩)
    * WS (ix2 0 ⟨128 * ((y 0).val / 10) + (y 2).val, by omega⟩)

/-- One entry of the weights' gradient: a column of the input against a lane of a slab, over all batches' rows. -/
def dwA (X : FVec Ideal S6x256x768 .bf16) (DY : FVec Ideal S6x1280x384 .fp8e5m2) (SC : FVec Ideal S6x256x12 .f32) :
    FVec Ideal S10x768x384 .f32 := fun y =>
  have h0 : (y 0).val < 10 := (y 0).isLt
  have h2 : (y 2).val < 384 := (y 2).isLt
  ∑ r : Fin 1536, X (ix3 ⟨r.val / 256, by omega⟩ ⟨r.val % 256, by omega⟩ ⟨(y 1).val, (y 1).isLt⟩)
    * G2 DY SC (ix3 ⟨10 * ((y 2).val / 128) + (y 0).val, by omega⟩ r ⟨(y 2).val % 128, by omega⟩)

/-! ## The weights -/

/-- The scaled weights of the first column block, at an index. -/
theorem w_at0 (s : FVec Ideal S1x384 .bf16) (v : FVec Ideal S1x768x128 .fp8e4m3) (i : Fin 768) (l : Fin 128) :
    k0_pay120 (F := Ideal) s v (ix3 0 i l) = v (ix3 0 i l) * s (ix2 0 ⟨128 * 0 + l.val, by omega⟩) := by
  pointwise [k0_pay120]

/-- The scaled weights of the second column block, at an index. -/
theorem w_at1 (s : FVec Ideal S1x384 .bf16) (v : FVec Ideal S1x768x128 .fp8e4m3) (i : Fin 768) (l : Fin 128) :
    k0_pay127 (F := Ideal) s v (ix3 0 i l) = v (ix3 0 i l) * s (ix2 0 ⟨128 * 1 + l.val, by omega⟩) := by
  pointwise [k0_pay127]

/-- The scaled weights of the third column block, at an index. -/
theorem w_at2 (s : FVec Ideal S1x384 .bf16) (v : FVec Ideal S1x768x128 .fp8e4m3) (i : Fin 768) (l : Fin 128) :
    k0_pay140 (F := Ideal) s v (ix3 0 i l) = v (ix3 0 i l) * s (ix2 0 ⟨128 * 2 + l.val, by omega⟩) := by
  pointwise [k0_pay140]

/-- The scales' payload is the scales. -/
theorem ws_at (s : FVec Ideal S1x384 .f32) (o : Fin 384) : k0_pay113 (F := Ideal) s (ix2 0 o) = s (ix2 0 o) := by
  pointwise [k0_pay113]

section Weights
variable (arg3 : Memref sig .tc .vmem S10x768x384 .fp8e4m3) (arg4 : Memref sig .tc .vmem S1x384 .f32)
  (X3 : BufTy.Contents (Elt Ideal) arg3.view.ty) (X4 : BufTy.Contents (Elt Ideal) arg4.view.ty)

/-- The scales as the kernel loads them. -/
abbrev wsL : FVec Ideal S1x384 .bf16 :=
  k0_pay113 (F := Ideal) (View.readAt (Elt Ideal) arg4.view
    (Rect.unit (s := S1x384) ![0, 0] S1x384.size inb_S1x384_S1x384_0_0).toLoadRect X4)

/-- The scales as the kernel loads them, at an index. -/
theorem wsL_at (o : Fin 384) : wsL arg4 X4 (ix2 0 o) = arg4.view.read (Elt Ideal) X4 (ix2 0 o) := by
  rw [wsL, ws_at]
  refine congrArg (arg4.view.read (Elt Ideal) X4) (funext fun a => Fin.ext ?_)
  fin_cases a <;> simp [Rect.unit, LoadRect.idx]

/-- A piece whose payload is a tap's columns times their scales agrees with the scaled weights. -/
theorem piece_w (ob : Fin 3) (P : FVec Ideal S1x384 .bf16 → FVec Ideal S1x768x128 .fp8e4m3 → FVec Ideal S1x768x128 .bf16)
    (hP : ∀ s v i l, P s v (ix3 0 i l) = v (ix3 0 i l) * s (ix2 0 ⟨128 * ob.val + l.val, by omega⟩))
    (jp : Fin 10) {off o : Fin 3 → Nat} (hoff : off = ![10 * ob.val + jp.val, 0, 0]) (ho : o = ![jp.val, 0, 128 * ob.val])
    (inb : ∀ a, off a + S1x768x128.size a ≤ S30x768x128.size a) (i : ∀ a, o a + S1x768x128.size a ≤ S10x768x384.size a)
    (x : S1x768x128.Idx) :
    P (wsL arg4 X4) (View.readAt (Elt Ideal) arg3.view (Rect.unit (s := S10x768x384) o S1x768x128.size i).toLoadRect X3) x
      = wtA (arg3.view.read (Elt Ideal) X3) (arg4.view.read (Elt Ideal) X4)
          ((Rect.unit (s := S30x768x128) off S1x768x128.size inb).emb x) := by
  idx_vars x
  obtain rfl : x0 = 0 := Subsingleton.elim _ _
  have hx : (Rect.unit (s := S30x768x128) off S1x768x128.size inb).emb (ix3 0 x1 x2)
      = ix3 ⟨10 * ob.val + jp.val, by omega⟩ x1 x2 := by
    subst hoff
    funext a
    apply Fin.ext
    fin_cases a <;> simp [Rect.unit, Rect.emb]
  rw [hx, hP, wsL_at]
  dsimp only [wtA, ix3]
  have e : (10 * ob.val + jp.val) / 10 = ob.val := by omega
  have e' : (10 * ob.val + jp.val) % 10 = jp.val := by omega
  refine congrArg₂ (· * ·) (congrArg (arg3.view.read (Elt Ideal) X3) (funext fun a => Fin.ext ?_))
    (congrArg (arg4.view.read (Elt Ideal) X4) (funext fun a => Fin.ext ?_))
  · subst ho
    fin_cases a <;> simp [Rect.unit, LoadRect.idx, e, e']
  · fin_cases a <;> simp [e]

end Weights

/-- Where a slab of the weights lies. -/
theorem mem_wslab (n : Nat) {off : Fin 3 → Nat} (hoff : off = ![n, 0, 0])
    (inb : ∀ a, off a + S1x768x128.size a ≤ S30x768x128.size a) (y : S30x768x128.Idx) (h : (y 0).val = n) :
    y ∈ (Rect.unit (s := S30x768x128) off S1x768x128.size inb).set := by
  subst hoff
  idx_vars y
  rw [Rect.mem_set_unit]
  intro a
  simp at h
  fin_cases a <;> simp <;> omega

/-! ## The weights' gradient -/

/-- The first half of a product's columns, at an index. -/
theorem dw_at0 (a b : FVec Ideal S1x1536x128 .bf16) (x : FVec Ideal S768x1536 .bf16) (i : Fin 768) (l : Fin 128) :
    k0_pay154 (F := Ideal) a b x (ix3 0 i l) = ∑ r : Fin 1536, x (ix2 i r) * a (ix3 0 r l) := by
  pointwise [k0_pay154, k0_pay153]

/-- The second half of a product's columns, at an index. -/
theorem dw_at1 (a b : FVec Ideal S1x1536x128 .bf16) (x : FVec Ideal S768x1536 .bf16) (i : Fin 768) (l : Fin 128) :
    k0_pay155 (F := Ideal) a b x (ix3 0 i l) = ∑ r : Fin 1536, x (ix2 i r) * b (ix3 0 r l) := by
  pointwise [k0_pay155, k0_pay153]

section Grad
variable (arg7 : Memref sig .tc .vmem S30x1536x128 .bf16) (arg9 : Memref sig .tc .vmem S768x1536 .bf16)
  (X : FVec Ideal S6x256x768 .bf16) (DY : FVec Ideal S6x1280x384 .fp8e5m2) (SC : FVec Ideal S6x256x12 .f32)
  (f7 : BufTy.Contents (Elt Ideal) arg7.view.ty) (f9 : BufTy.Contents (Elt Ideal) arg9.view.ty)

/-- The transposed input as the kernel loads it after the loop. -/
abbrev xtL : FVec Ideal S768x1536 .bf16 :=
  View.readAt (Elt Ideal) arg9.view
    (Rect.unit (s := S768x1536) ![0, 0] S768x1536.size inb_S768x1536_S768x1536_0_0).toLoadRect f9

/-- A slab as the kernel loads it after the loop. -/
abbrev slabL (o : Fin 3 → Nat) (i : ∀ a, o a + S1x1536x128.size a ≤ S30x1536x128.size a) : FVec Ideal S1x1536x128 .bf16 :=
  View.readAt (Elt Ideal) arg7.view (Rect.unit (s := S30x1536x128) o S1x1536x128.size i).toLoadRect f7

/-- A piece that is the product of the transposed input with one slab agrees with the weights' gradient. -/
theorem piece_dw (h7 : ∀ y, arg7.view.read (Elt Ideal) f7 y = G2 DY SC y)
    (h9 : ∀ (i : Fin 768) (r : Fin 1536), arg9.view.read (Elt Ideal) f9 (ix2 i r)
      = X (ix3 ⟨r.val / 256, by omega⟩ ⟨r.val % 256, by omega⟩ i))
    (ob : Fin 3) (jp : Fin 10) {o off : Fin 3 → Nat} (ho : o = ![10 * ob.val + jp.val, 0, 0])
    (hoff : off = ![jp.val, 0, 128 * ob.val])
    (io : ∀ a, o a + S1x1536x128.size a ≤ S30x1536x128.size a) (inb : ∀ a, off a + S1x768x128.size a ≤ S10x768x384.size a)
    (s : FVec Ideal S1x768x128 .f32)
    (hs : ∀ (i : Fin 768) (l : Fin 128), s (ix3 0 i l)
      = ∑ r : Fin 1536, xtL arg9 f9 (ix2 i r) * slabL arg7 f7 o io (ix3 0 r l))
    (x : S1x768x128.Idx) :
    s x = dwA X DY SC ((Rect.unit (s := S10x768x384) off S1x768x128.size inb).emb x) := by
  idx_vars x
  obtain rfl : x0 = 0 := Subsingleton.elim _ _
  have hx : (Rect.unit (s := S10x768x384) off S1x768x128.size inb).emb (ix3 0 x1 x2)
      = ix3 jp x1 ⟨128 * ob.val + x2.val, by omega⟩ := by
    subst hoff
    funext a
    apply Fin.ext
    fin_cases a <;> simp [Rect.unit, Rect.emb]
  rw [hx, hs]
  dsimp only [dwA, ix3]
  have e : (128 * ob.val + x2.val) / 128 = ob.val := by omega
  have e' : (128 * ob.val + x2.val) % 128 = x2.val := by omega
  refine Finset.sum_congr rfl fun r _ => congrArg₂ (· * ·) ((?_ : _ = _).trans (h9 x1 r)) ((h7 _).trans ?_)
  · refine congrArg (arg9.view.read (Elt Ideal) f9) (funext fun a => Fin.ext ?_)
    fin_cases a <;> simp [Rect.unit, LoadRect.idx]
  · refine congrArg (G2 DY SC) (funext fun a => Fin.ext ?_)
    subst ho
    fin_cases a <;> simp [Rect.unit, LoadRect.idx, e, e']

/-- The first product of a pair. -/
theorem piece_dw0 (h7 : ∀ y, arg7.view.read (Elt Ideal) f7 y = G2 DY SC y)
    (h9 : ∀ (i : Fin 768) (r : Fin 1536), arg9.view.read (Elt Ideal) f9 (ix2 i r)
      = X (ix3 ⟨r.val / 256, by omega⟩ ⟨r.val % 256, by omega⟩ i))
    (ob : Fin 3) (jp : Fin 10) {o o' off : Fin 3 → Nat} (ho : o = ![10 * ob.val + jp.val, 0, 0])
    (hoff : off = ![jp.val, 0, 128 * ob.val])
    (io : ∀ a, o a + S1x1536x128.size a ≤ S30x1536x128.size a) (io' : ∀ a, o' a + S1x1536x128.size a ≤ S30x1536x128.size a)
    (inb : ∀ a, off a + S1x768x128.size a ≤ S10x768x384.size a) (x : S1x768x128.Idx) :
    k0_pay154 (F := Ideal) (slabL arg7 f7 o io) (slabL arg7 f7 o' io') (xtL arg9 f9) x
      = dwA X DY SC ((Rect.unit (s := S10x768x384) off S1x768x128.size inb).emb x) :=
  piece_dw arg7 arg9 X DY SC f7 f9 h7 h9 ob jp ho hoff io inb _ (dw_at0 _ _ _) x

/-- The second product of a pair. -/
theorem piece_dw1 (h7 : ∀ y, arg7.view.read (Elt Ideal) f7 y = G2 DY SC y)
    (h9 : ∀ (i : Fin 768) (r : Fin 1536), arg9.view.read (Elt Ideal) f9 (ix2 i r)
      = X (ix3 ⟨r.val / 256, by omega⟩ ⟨r.val % 256, by omega⟩ i))
    (ob : Fin 3) (jp : Fin 10) {o o' off : Fin 3 → Nat} (ho : o = ![10 * ob.val + jp.val, 0, 0])
    (hoff : off = ![jp.val, 0, 128 * ob.val])
    (io : ∀ a, o a + S1x1536x128.size a ≤ S30x1536x128.size a) (io' : ∀ a, o' a + S1x1536x128.size a ≤ S30x1536x128.size a)
    (inb : ∀ a, off a + S1x768x128.size a ≤ S10x768x384.size a) (x : S1x768x128.Idx) :
    k0_pay155 (F := Ideal) (slabL arg7 f7 o' io') (slabL arg7 f7 o io) (xtL arg9 f9) x
      = dwA X DY SC ((Rect.unit (s := S10x768x384) off S1x768x128.size inb).emb x) :=
  piece_dw arg7 arg9 X DY SC f7 f9 h7 h9 ob jp ho hoff io inb _ (dw_at1 _ _ _) x

end Grad

/-- Where a block of the weights' gradient lies. -/
theorem mem_dw (n jp ob : Nat) {off : Fin 3 → Nat} (hoff : off = ![jp, 0, 128 * ob])
    (inb : ∀ a, off a + S1x768x128.size a ≤ S10x768x384.size a) (y : S10x768x384.Idx)
    (hn : jp < 10 ∧ n = 10 * ob + jp) (h : 10 * ((y 2).val / 128) + (y 0).val = n) :
    y ∈ (Rect.unit (s := S10x768x384) off S1x768x128.size inb).set := by
  subst hoff
  idx_vars y
  rw [Rect.mem_set_unit]
  intro a
  simp at h
  fin_cases a <;> simp <;> omega

/-- A number below thirty is one of the thirty, from the last to the first. -/
theorem thirty : ∀ a : Fin 30, a.val = 29 ∨ a.val = 28 ∨ a.val = 27 ∨ a.val = 26 ∨ a.val = 25 ∨ a.val = 24 ∨ a.val = 23 ∨ a.val = 22 ∨ a.val = 21 ∨ a.val = 20 ∨ a.val = 19 ∨ a.val = 18 ∨ a.val = 17 ∨ a.val = 16 ∨ a.val = 15 ∨ a.val = 14 ∨ a.val = 13 ∨ a.val = 12 ∨ a.val = 11 ∨ a.val = 10 ∨ a.val = 9 ∨ a.val = 8 ∨ a.val = 7 ∨ a.val = 6 ∨ a.val = 5 ∨ a.val = 4 ∨ a.val = 3 ∨ a.val = 2 ∨ a.val = 1 ∨ a.val = 0 := by
  decide

end Cert.KernelIdeal.Hand

end
-- ==== Proof.Run.lean ====
/-
  The kernel's body at the extended reals, run once: what it leaves in its two results, as functions of its five inputs.
-/
module

public import proofs.«01_k».proof.Proof.Gen.KernelIdeal.Frame
public import proofs.«01_k».proof.Proof.Gen.KernelIdeal.Loops
public import proofs.«01_k».proof.Proof.Pieces
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the run. -/
local notation "𝕄" => MT nD τ sig Unit (Elt Ideal) ℕ (UR sig nD τ) ℕ

/-- The input's gradient as an array: every batch's row of slabs against every row of weight slabs. -/
def dxA (DY : FVec Ideal S6x1280x384 .fp8e5m2) (SC : FVec Ideal S6x256x12 .f32) (W : FVec Ideal S30x768x128 .bf16) :
    FVec Ideal S6x256x768 .bf16 := fun y => dxv DY SC W (y 0) (y 1) (y 2)

set_option maxHeartbeats 4000000 in
/-- The body's triple, for any continuation: from the five inputs at known contents and the two results and the four
    scratch buffers at any, the kernel runs to its return and hands back the inputs as they were, the two results at the
    two gradients, and the scratch at some contents. -/
theorem kernelRun (c : Dev nD) (E : Set ℕ)
    (arg0 : Memref sig .tc .vmem S6x256x768 .bf16) (harg0 : arg0.IsWhole)
    (arg1 : Memref sig .tc .vmem S6x1280x384 .fp8e5m2) (harg1 : arg1.IsWhole)
    (arg2 : Memref sig .tc .vmem S6x256x12 .f32) (harg2 : arg2.IsWhole)
    (arg3 : Memref sig .tc .vmem S10x768x384 .fp8e4m3) (harg3 : arg3.IsWhole)
    (arg4 : Memref sig .tc .vmem S1x384 .f32) (harg4 : arg4.IsWhole)
    (arg5 : Memref sig .tc .vmem S6x256x768 .bf16) (harg5 : arg5.IsWhole)
    (arg6 : Memref sig .tc .vmem S10x768x384 .f32) (harg6 : arg6.IsWhole)
    (arg7 : Memref sig .tc .vmem S30x1536x128 .bf16) (harg7 : arg7.IsWhole)
    (arg8 : Memref sig .tc .vmem S30x768x128 .bf16) (harg8 : arg8.IsWhole)
    (arg9 : Memref sig .tc .vmem S768x1536 .bf16) (harg9 : arg9.IsWhole)
    (arg10 : Memref sig .tc .vmem S1288x128 .f32) (harg10 : arg10.IsWhole)
    (x0 : Vec Ideal S6x256x768 .bf16) (x1 : Vec Ideal S6x1280x384 .fp8e5m2) (x2 : Vec Ideal S6x256x12 .f32) (x3 : Vec Ideal S10x768x384 .fp8e4m3) (x4 : Vec Ideal S1x384 .f32) (K : PUnit → sProp 𝕄) :
    iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        (∃ d, owns (c : Thread nD τ) arg5 fullShare d) ∗
        (∃ d, owns (c : Thread nD τ) arg6 fullShare d) ∗
        (∃ d, owns (c : Thread nD τ) arg7 fullShare d) ∗
        (∃ d, owns (c : Thread nD τ) arg8 fullShare d) ∗
        (∃ d, owns (c : Thread nD τ) arg9 fullShare d) ∗
        (∃ d, owns (c : Thread nD τ) arg10 fullShare d)
        ∗ (iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        owns (c : Thread nD τ) arg5 fullShare (dxA x1 x2 (wtA x3 x4)) ∗
        owns (c : Thread nD τ) arg6 fullShare (dwA x0 x1 x2) ∗
        (∃ d, owns (c : Thread nD τ) arg7 fullShare d) ∗
        (∃ d, owns (c : Thread nD τ) arg8 fullShare d) ∗
        (∃ d, owns (c : Thread nD τ) arg9 fullShare d) ∗
        (∃ d, owns (c : Thread nD τ) arg10 fullShare d)) -∗ K ⟨⟩))
      ⊢ wp frame (wpE (defs₀ (F := Ideal)) Variants.none c none) E (cc0_convt_bwd arg0 harg0 arg1 harg1 arg2 harg2 arg3 harg3 arg4 harg4 arg5 harg5 arg6 harg6 arg7 harg7 arg8 harg8 arg9 harg9 arg10 harg10) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  have hD := hL7 (by rw [show Scf.trips k0_t1_loop.lb k0_t1_loop.ub k0_t1_loop.st = 6 from trips_eq]; decide)
  rw [show Scf.trips k0_t1_loop.lb k0_t1_loop.ub k0_t1_loop.st = 6 from trips_eq] at hD
  -- the scratch of the scaled weights
  have hW : arg8.view.read (Elt Ideal) (arg8.view.writes (Elt Ideal) arg8.view.junk (kernelRun.sl.H8_30 c arg3 arg4 f3 f4))
      = wtA (arg3.view.read (Elt Ideal) f3) (arg4.view.read (Elt Ideal) f4) := by
    funext y
    refine View.read_writes_apply_of_pieces arg8.view _ _ _ ?_ y ?_
    · unfold kernelRun.sl.H8_30
      simp only [List.forall_mem_cons, List.not_mem_nil, false_imp_iff, implies_true, and_true]
      exact ⟨piece_w arg3 arg4 f3 f4 2 k0_pay140 w_at2 9 rfl rfl _ _,
        piece_w arg3 arg4 f3 f4 2 k0_pay140 w_at2 8 rfl rfl _ _,
        piece_w arg3 arg4 f3 f4 2 k0_pay140 w_at2 7 rfl rfl _ _,
        piece_w arg3 arg4 f3 f4 2 k0_pay140 w_at2 6 rfl rfl _ _,
        piece_w arg3 arg4 f3 f4 2 k0_pay140 w_at2 5 rfl rfl _ _,
        piece_w arg3 arg4 f3 f4 2 k0_pay140 w_at2 4 rfl rfl _ _,
        piece_w arg3 arg4 f3 f4 2 k0_pay140 w_at2 3 rfl rfl _ _,
        piece_w arg3 arg4 f3 f4 2 k0_pay140 w_at2 2 rfl rfl _ _,
        piece_w arg3 arg4 f3 f4 2 k0_pay140 w_at2 1 rfl rfl _ _,
        piece_w arg3 arg4 f3 f4 2 k0_pay140 w_at2 0 rfl rfl _ _,
        piece_w arg3 arg4 f3 f4 1 k0_pay127 w_at1 9 rfl rfl _ _,
        piece_w arg3 arg4 f3 f4 1 k0_pay127 w_at1 8 rfl rfl _ _,
        piece_w arg3 arg4 f3 f4 1 k0_pay127 w_at1 7 rfl rfl _ _,
        piece_w arg3 arg4 f3 f4 1 k0_pay127 w_at1 6 rfl rfl _ _,
        piece_w arg3 arg4 f3 f4 1 k0_pay127 w_at1 5 rfl rfl _ _,
        piece_w arg3 arg4 f3 f4 1 k0_pay127 w_at1 4 rfl rfl _ _,
        piece_w arg3 arg4 f3 f4 1 k0_pay127 w_at1 3 rfl rfl _ _,
        piece_w arg3 arg4 f3 f4 1 k0_pay127 w_at1 2 rfl rfl _ _,
        piece_w arg3 arg4 f3 f4 1 k0_pay127 w_at1 1 rfl rfl _ _,
        piece_w arg3 arg4 f3 f4 1 k0_pay127 w_at1 0 rfl rfl _ _,
        piece_w arg3 arg4 f3 f4 0 k0_pay120 w_at0 9 rfl rfl _ _,
        piece_w arg3 arg4 f3 f4 0 k0_pay120 w_at0 8 rfl rfl _ _,
        piece_w arg3 arg4 f3 f4 0 k0_pay120 w_at0 7 rfl rfl _ _,
        piece_w arg3 arg4 f3 f4 0 k0_pay120 w_at0 6 rfl rfl _ _,
        piece_w arg3 arg4 f3 f4 0 k0_pay120 w_at0 5 rfl rfl _ _,
        piece_w arg3 arg4 f3 f4 0 k0_pay120 w_at0 4 rfl rfl _ _,
        piece_w arg3 arg4 f3 f4 0 k0_pay120 w_at0 3 rfl rfl _ _,
        piece_w arg3 arg4 f3 f4 0 k0_pay120 w_at0 2 rfl rfl _ _,
        piece_w arg3 arg4 f3 f4 0 k0_pay120 w_at0 1 rfl rfl _ _,
        piece_w arg3 arg4 f3 f4 0 k0_pay120 w_at0 0 rfl rfl _ _⟩
    · unfold kernelRun.sl.H8_30
      simp only [List.exists_mem_cons_iff, List.not_mem_nil, false_and, exists_false, or_false]
      refine (?_ : _ → _) (thirty (y 0))
      exact Or.imp (mem_wslab 29 rfl _ y) <|
        Or.imp (mem_wslab 28 rfl _ y) <|
        Or.imp (mem_wslab 27 rfl _ y) <|
        Or.imp (mem_wslab 26 rfl _ y) <|
        Or.imp (mem_wslab 25 rfl _ y) <|
        Or.imp (mem_wslab 24 rfl _ y) <|
        Or.imp (mem_wslab 23 rfl _ y) <|
        Or.imp (mem_wslab 22 rfl _ y) <|
        Or.imp (mem_wslab 21 rfl _ y) <|
        Or.imp (mem_wslab 20 rfl _ y) <|
        Or.imp (mem_wslab 19 rfl _ y) <|
        Or.imp (mem_wslab 18 rfl _ y) <|
        Or.imp (mem_wslab 17 rfl _ y) <|
        Or.imp (mem_wslab 16 rfl _ y) <|
        Or.imp (mem_wslab 15 rfl _ y) <|
        Or.imp (mem_wslab 14 rfl _ y) <|
        Or.imp (mem_wslab 13 rfl _ y) <|
        Or.imp (mem_wslab 12 rfl _ y) <|
        Or.imp (mem_wslab 11 rfl _ y) <|
        Or.imp (mem_wslab 10 rfl _ y) <|
        Or.imp (mem_wslab 9 rfl _ y) <|
        Or.imp (mem_wslab 8 rfl _ y) <|
        Or.imp (mem_wslab 7 rfl _ y) <|
        Or.imp (mem_wslab 6 rfl _ y) <|
        Or.imp (mem_wslab 5 rfl _ y) <|
        Or.imp (mem_wslab 4 rfl _ y) <|
        Or.imp (mem_wslab 3 rfl _ y) <|
        Or.imp (mem_wslab 2 rfl _ y) <|
        Or.imp (mem_wslab 1 rfl _ y) <|
        mem_wslab 0 rfl _ y
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    funext y
    idx_vars y
    refine (hD.dx y0 y1 y2 y0.isLt).trans ?_
    rw [hW]
    rfl
  isplitl [H6]
  · iexists _; isplitr; swap; · iexact H6
    ipureintro
    funext y
    have D0 := fun ob jp {o o' off} ho hoff io io' inb => piece_dw0 arg7 arg9 (arg0.view.read (Elt Ideal) f0)
      (arg1.view.read (Elt Ideal) f1) (arg2.view.read (Elt Ideal) f2) _ _
      (fun y => hD.slab y (y 1).isLt) (fun i r => hD.xt i r r.isLt) ob jp (o := o) (o' := o') (off := off) ho hoff io io' inb
    have D1 := fun ob jp {o o' off} ho hoff io io' inb => piece_dw1 arg7 arg9 (arg0.view.read (Elt Ideal) f0)
      (arg1.view.read (Elt Ideal) f1) (arg2.view.read (Elt Ideal) f2) _ _
      (fun y => hD.slab y (y 1).isLt) (fun i r => hD.xt i r r.isLt) ob jp (o := o) (o' := o') (off := off) ho hoff io io' inb
    refine View.read_writes_apply_of_pieces arg6.view _ _ _ ?_ y ?_
    · simp only [List.forall_mem_cons, List.not_mem_nil, false_imp_iff, implies_true, and_true]
      exact ⟨D1 2 9 rfl rfl _ _ _,
        D0 2 8 rfl rfl _ _ _,
        D1 2 7 rfl rfl _ _ _,
        D0 2 6 rfl rfl _ _ _,
        D1 2 5 rfl rfl _ _ _,
        D0 2 4 rfl rfl _ _ _,
        D1 2 3 rfl rfl _ _ _,
        D0 2 2 rfl rfl _ _ _,
        D1 2 1 rfl rfl _ _ _,
        D0 2 0 rfl rfl _ _ _,
        D1 1 9 rfl rfl _ _ _,
        D0 1 8 rfl rfl _ _ _,
        D1 1 7 rfl rfl _ _ _,
        D0 1 6 rfl rfl _ _ _,
        D1 1 5 rfl rfl _ _ _,
        D0 1 4 rfl rfl _ _ _,
        D1 1 3 rfl rfl _ _ _,
        D0 1 2 rfl rfl _ _ _,
        D1 1 1 rfl rfl _ _ _,
        D0 1 0 rfl rfl _ _ _,
        D1 0 9 rfl rfl _ _ _,
        D0 0 8 rfl rfl _ _ _,
        D1 0 7 rfl rfl _ _ _,
        D0 0 6 rfl rfl _ _ _,
        D1 0 5 rfl rfl _ _ _,
        D0 0 4 rfl rfl _ _ _,
        D1 0 3 rfl rfl _ _ _,
        D0 0 2 rfl rfl _ _ _,
        D1 0 1 rfl rfl _ _ _,
        D0 0 0 rfl rfl _ _ _⟩
    · simp only [List.exists_mem_cons_iff, List.not_mem_nil, false_and, exists_false, or_false]
      have h0 : (y 0).val < 10 := (y 0).isLt
      have h2 : (y 2).val < 384 := (y 2).isLt
      refine (?_ : _ → _) (thirty ⟨10 * ((y 2).val / 128) + (y 0).val, by omega⟩)
      exact Or.imp (mem_dw 29 9 2 rfl _ y (by decide)) <|
        Or.imp (mem_dw 28 8 2 rfl _ y (by decide)) <|
        Or.imp (mem_dw 27 7 2 rfl _ y (by decide)) <|
        Or.imp (mem_dw 26 6 2 rfl _ y (by decide)) <|
        Or.imp (mem_dw 25 5 2 rfl _ y (by decide)) <|
        Or.imp (mem_dw 24 4 2 rfl _ y (by decide)) <|
        Or.imp (mem_dw 23 3 2 rfl _ y (by decide)) <|
        Or.imp (mem_dw 22 2 2 rfl _ y (by decide)) <|
        Or.imp (mem_dw 21 1 2 rfl _ y (by decide)) <|
        Or.imp (mem_dw 20 0 2 rfl _ y (by decide)) <|
        Or.imp (mem_dw 19 9 1 rfl _ y (by decide)) <|
        Or.imp (mem_dw 18 8 1 rfl _ y (by decide)) <|
        Or.imp (mem_dw 17 7 1 rfl _ y (by decide)) <|
        Or.imp (mem_dw 16 6 1 rfl _ y (by decide)) <|
        Or.imp (mem_dw 15 5 1 rfl _ y (by decide)) <|
        Or.imp (mem_dw 14 4 1 rfl _ y (by decide)) <|
        Or.imp (mem_dw 13 3 1 rfl _ y (by decide)) <|
        Or.imp (mem_dw 12 2 1 rfl _ y (by decide)) <|
        Or.imp (mem_dw 11 1 1 rfl _ y (by decide)) <|
        Or.imp (mem_dw 10 0 1 rfl _ y (by decide)) <|
        Or.imp (mem_dw 9 9 0 rfl _ y (by decide)) <|
        Or.imp (mem_dw 8 8 0 rfl _ y (by decide)) <|
        Or.imp (mem_dw 7 7 0 rfl _ y (by decide)) <|
        Or.imp (mem_dw 6 6 0 rfl _ y (by decide)) <|
        Or.imp (mem_dw 5 5 0 rfl _ y (by decide)) <|
        Or.imp (mem_dw 4 4 0 rfl _ y (by decide)) <|
        Or.imp (mem_dw 3 3 0 rfl _ y (by decide)) <|
        Or.imp (mem_dw 2 2 0 rfl _ y (by decide)) <|
        Or.imp (mem_dw 1 1 0 rfl _ y (by decide)) <|
        mem_dw 0 0 0 rfl _ y (by decide)
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.KernelIdeal.Hand

end
-- ==== Proof.IdealFrame.lean ====
/-
  The kernel's run at the extended reals: it ends without a fault, its argument arrays unchanged, its two result arrays
  at the two gradients of what the region finds in its inputs, and every semaphore counter at zero.
-/
module

public import proofs.«01_k».proof.Proof.Gen.KernelIdeal.Frame
public import proofs.«01_k».proof.Proof.Gen.KernelIdeal.Loops
public import proofs.«01_k».proof.Proof.Run
public import Idealize.ShloMosaic.Lib.Pipeline.Frame
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The proof data of the one pipeline on core `c`: the arrays as the region finds them; after the body each input's
    buffer at its block, the outputs' at the two gradients; the invariant the scratch at some contents and the generator register at
    some state; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxA (iblk m c 1 t) (iblk m c 2 t) (wtA (iblk m c 3 t) (iblk m c 4 t))
    | ⟨6, _⟩ => dwA (iblk m c 0 t) (iblk m c 1 t) (iblk m c 2 t)
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-! What the body leaves in each input's buffer: that input's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-! What the body leaves in each output's buffer. -/
theorem after0_5 (c : Dev nD) (t : Fin cfg0.N) : (dats m 0 c).after 5 t
    = dxA (iblk m c 1 t) (iblk m c 2 t) (wtA (iblk m c 3 t) (iblk m c 4 t)) := by dsimp only [dats]
theorem after0_6 (c : Dev nD) (t : Fin cfg0.N) : (dats m 0 c).after 6 t
    = dwA (iblk m c 0 t) (iblk m c 1 t) (iblk m c 2 t) := by dsimp only [dats]
/-! What the body finds in each input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The invariant conjunct by conjunct: the four scratch buffers owned at some contents, and the generator register. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA
  rw [scopedRest0_eq]; simp only [owns_whole]; try rfl

/-- The body at any point: the inputs' buffers hold their blocks, the scratch is taken out of the invariant and put
    back, and `kernelRun` applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun c Set.univ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- From any memory with zero counters the program ends, every array of the pipeline at what the proof data say, every
    other buffer as the region found it, and every semaphore counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with its five argument arrays unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The frame: the program ends, its five argument arrays end unchanged, and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.KernelIdeal.Hand

end
-- ==== Proof.RefRead.lean ====
/-
  What the reference's two results hold, index by index at the extended reals.
-/
module

public import proofs.«01_k».proof.Proof.Gen.ReferenceIdeal.Skeleton
public import proofs.«01_k».proof.Proof.Gen.ReferenceIdeal
public import Idealize.ShloMosaic.Lib.Pointwise
public import Idealize.ShloMosaic.Lib.Exec
public import Idealize.ShloMosaic.Lib.Tactic

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (X : FVec Ideal S6x256x768 .bf16) (DY : FVec Ideal S6x1280x384 .fp8e5m2) (SC : FVec Ideal S6x256x12 .f32)
  (WC : FVec Ideal S10x768x384 .fp8e4m3) (WS : FVec Ideal S384 .f32)

/-- The scaled output gradient at batch `b`, row `5 t + p`, channel `o`. -/
def gR (b : Fin 6) (t : Fin 256) (p : Fin 5) (o : Fin 384) : EReal :=
  DY (ix3 b ⟨5 * t.val + p.val, by omega⟩ o) * SC (ix3 b t ⟨o.val / 32, by omega⟩)

/-- The reference's scaled gradients, read at an index. -/
theorem pay1_at (b : Fin 6) (t : Fin 256) (p : Fin 5) (o : Fin 384) :
    k0_pay1 (F := Ideal) DY SC (ix4 b t p o) = gR DY SC b t p o := by
  pointwise [k0_pay1, gR]
  congr 3
  exact Fin.ext (by dsimp only; omega)

/-- The gradient of the input: at step `t` of batch `b`, the first five taps against the gradients of step `t`, plus the
    last five against those of step `t + 1`; after the last step there are none. -/
def refDx (b : Fin 6) (t : Fin 256) (i : Fin 768) : EReal :=
  (∑ o : Fin 384, ∑ p : Fin 5, WC (ix3 ⟨p.val, by omega⟩ i o) * WS (ix1 o) * gR DY SC b t p o)
    + if h : t.val < 255 then ∑ o : Fin 384, ∑ p : Fin 5,
        WC (ix3 ⟨5 + p.val, by omega⟩ i o) * WS (ix1 o) * gR DY SC b ⟨1 + t.val, by omega⟩ p o
      else 0

/-- The reference's first result, read at an index. -/
theorem pay2_at (b : Fin 6) (t : Fin 256) (i : Fin 768) :
    k0_pay2 (F := Ideal) DY SC WC WS (ix3 b t i) = refDx DY SC WC WS b t i := by
  unfold k0_pay2 refDx
  dsimp only
  simp only [← pay1_at]
  generalize k0_pay1 (F := Ideal) DY SC = g
  pointwise []
  congr 1
  split
  · rfl
  · simp

/-- The gradient of the weights at tap `tp`: the sum over the batches and steps of the gradient times the input. The
    first five taps meet the input of the same step. The last five meet that of the step before; before the first step
    there is none. -/
def refDw (tp : Fin 10) (i : Fin 768) (o : Fin 384) : EReal :=
  ∑ b : Fin 6, ((gR DY SC b 0 ⟨tp.val % 5, by omega⟩ o * if tp.val / 5 < 1 then X (ix3 b 0 i) else 0)
    + ∑ t : Fin 255, gR DY SC b ⟨1 + t.val, by omega⟩ ⟨tp.val % 5, by omega⟩ o
        * if tp.val / 5 < 1 then X (ix3 b ⟨1 + t.val, by omega⟩ i) else X (ix3 b ⟨t.val, by omega⟩ i))

/-- The reference's second result, read at an index. -/
theorem pay3_at (tp : Fin 10) (i : Fin 768) (o : Fin 384) :
    k0_pay3 (F := Ideal) X DY SC (ix3 tp i o) = refDw X DY SC tp i o := by
  unfold k0_pay3 refDw
  dsimp only
  simp only [← pay1_at]
  generalize k0_pay1 (F := Ideal) DY SC = g
  pointwise []
  refine Finset.sum_congr rfl fun b _ => ?_
  congr 1
  simp

end Cert.ReferenceIdeal.Hand

end
-- ==== Proof.Equal.lean ====
/-
  The equation of the two programs: the kernel's two results, as sums over slabs, lanes and rows, are the reference's, as
  sums over taps, channels, batches and steps. Only the commutativity and associativity of the sum and of the product
  and `0 * x = 0` are used, so nothing is asked of the inputs.
-/
module

public import proofs.«01_k».proof.Proof.Run
public import proofs.«01_k».proof.Proof.RefRead

@[expose] public section

set_option maxRecDepth 16384

noncomputable section

namespace Cert.Hand

open Idealize.ShloMosaic Idealize.ShloMosaic.TcCoe Idealize.ShloMosaic.Tactic
open Cert.KernelIdeal Cert.KernelIdeal.Hand Cert.ReferenceIdeal.Hand

/-! ## Sums over blocks -/

/-- Position `128 n + l` of the long contraction, `n = 10 q + 5 j + p`, is half `j`, tap `p` and channel `128 q + l`. -/
def place : Fin 3840 ≃ Fin 2 × Fin 384 × Fin 5 where
  toFun r := (⟨r.val / 128 % 10 / 5, by omega⟩, ⟨128 * (r.val / 128 / 10) + r.val % 128, by omega⟩,
    ⟨r.val / 128 % 5, by omega⟩)
  invFun z := ⟨128 * (10 * (z.2.1.val / 128) + 5 * z.1.val + z.2.2.val) + z.2.1.val % 128, by
    have := z.1.isLt; have := z.2.1.isLt; have := z.2.2.isLt; omega⟩
  left_inv r := Fin.ext (by dsimp only; omega)
  right_inv z := by
    obtain ⟨j, o, p⟩ := z
    have := j.isLt; have := o.isLt; have := p.isLt
    refine Prod.ext (Fin.ext ?_) (Prod.ext (Fin.ext ?_) (Fin.ext ?_)) <;> dsimp only <;> omega

/-- The sum over the long contraction is the sum over halves, channels and taps. -/
theorem sum_place (f : Fin 2 → Fin 384 → Fin 5 → EReal) :
    (∑ r : Fin 3840, f (place r).1 (place r).2.1 (place r).2.2) = ∑ j, ∑ o, ∑ p, f j o p := by
  rw [Equiv.sum_comp place (fun z => f z.1 z.2.1 z.2.2), Fintype.sum_prod_type]
  exact Finset.sum_congr rfl fun j _ => Fintype.sum_prod_type _

/-- Row `256 b + t` is step `t` of batch `b`. -/
def row : Fin 1536 ≃ Fin 6 × Fin 256 where
  toFun r := (⟨r.val / 256, by omega⟩, ⟨r.val % 256, by omega⟩)
  invFun z := ⟨256 * z.1.val + z.2.val, by have := z.1.isLt; have := z.2.isLt; omega⟩
  left_inv r := Fin.ext (by dsimp only; omega)
  right_inv z := by
    obtain ⟨b, t⟩ := z
    have := b.isLt; have := t.isLt
    refine Prod.ext (Fin.ext ?_) (Fin.ext ?_) <;> dsimp only <;> omega

/-- The sum over rows is the sum over batches and steps. -/
theorem sum_row (f : Fin 6 → Fin 256 → EReal) :
    (∑ r : Fin 1536, f (row r).1 (row r).2) = ∑ b, ∑ t, f b t := by
  rw [Equiv.sum_comp row (fun z => f z.1 z.2), Fintype.sum_prod_type]

/-! ## The two results -/

section
variable (X : FVec Ideal S6x256x768 .bf16) (DY : FVec Ideal S6x1280x384 .fp8e5m2) (SC : FVec Ideal S6x256x12 .f32)
  (WC : FVec Ideal S10x768x384 .fp8e4m3) (WS : FVec Ideal Cert.ReferenceIdeal.S384 .f32)

/-- The scales of the weights as the kernel takes them: one row. -/
def rowOf : FVec Ideal S1x384 .f32 := fun y => WS (ix1 (y 1))

/-- The first result: the gradient of the input. -/
theorem dx_eq (b : Fin 6) (t : Fin 256) (i : Fin 768) :
    dxA DY SC (wtA WC (rowOf WS)) (ix3 b t i) = refDx DY SC WC WS b t i := by
  have key : dxA DY SC (wtA WC (rowOf WS)) (ix3 b t i)
      = ∑ j : Fin 2, ∑ o : Fin 384, ∑ p : Fin 5, WC (ix3 ⟨5 * j.val + p.val, by omega⟩ i o) * WS (ix1 o) * gJ DY SC j b t p o := by
    rw [← sum_place fun j o p => WC (ix3 ⟨5 * j.val + p.val, by omega⟩ i o) * WS (ix1 o) * gJ DY SC j b t p o]
    unfold dxA dxv
    refine Finset.sum_congr rfl fun r _ => ?_
    rw [mul_comm]
    unfold slabF wslab wtA G2 rowOf place
    dsimp only [Equiv.coe_fn_mk]
    congr 1
    · congr 2
      congr 1
      exact Fin.ext (by simp; omega)
    · congr 1 <;> exact Fin.ext (by simp; try omega)
  rw [key, Fin.sum_univ_two]
  unfold refDx
  congr 1
  by_cases h : t.val < 255
  · rw [dif_pos h]
    refine Finset.sum_congr rfl fun o _ => Finset.sum_congr rfl fun p _ => ?_
    congr 1
    have h' : t.val + 1 < 256 := by omega
    have e : (⟨t.val + 1, h'⟩ : Fin 256) = ⟨1 + t.val, by omega⟩ := Fin.ext (Nat.add_comm _ _)
    simp only [gJ, h', e]
    rfl
  · rw [dif_neg h]
    refine Finset.sum_eq_zero fun o _ => Finset.sum_eq_zero fun p _ => ?_
    rw [show gJ DY SC 1 b t p o = 0 from by simp [gJ]; omega, mul_zero]

/-- The second result: the gradient of the weights. -/
theorem dw_eq (tp : Fin 10) (i : Fin 768) (o : Fin 384) :
    dwA X DY SC (ix3 tp i o) = refDw X DY SC tp i o := by
  have key : dwA X DY SC (ix3 tp i o)
      = ∑ b : Fin 6, ∑ t : Fin 256, X (ix3 b t i) * gJ DY SC ⟨tp.val / 5, by omega⟩ b t ⟨tp.val % 5, by omega⟩ o := by
    rw [← sum_row fun b t => X (ix3 b t i) * gJ DY SC ⟨tp.val / 5, by omega⟩ b t ⟨tp.val % 5, by omega⟩ o]
    unfold dwA
    refine Finset.sum_congr rfl fun r _ => ?_
    unfold G2 row
    dsimp only [Equiv.coe_fn_mk]
    congr 1
    congr 1 <;> exact Fin.ext (by simp; try omega)
  rw [key]
  refine Finset.sum_congr rfl fun b _ => ?_
  by_cases h : tp.val / 5 < 1
  · have h0 : tp.val / 5 = 0 := by omega
    rw [Fin.sum_univ_succ]
    simp only [h, if_true, gJ, h0]
    congr 1
    · exact mul_comm _ _
    · refine Finset.sum_congr rfl fun t _ => ?_
      have e : t.succ = (⟨1 + t.val, by omega⟩ : Fin 256) := Fin.ext (Nat.add_comm _ _)
      rw [e, mul_comm]
      rfl
  · have h0 : tp.val / 5 = 1 := by omega
    rw [Fin.sum_univ_castSucc, add_comm]
    simp only [h, if_false, mul_zero]
    congr 1
    · rw [show gJ DY SC ⟨tp.val / 5, by omega⟩ b (Fin.last 255) ⟨tp.val % 5, by omega⟩ o = 0 from by
        simp [gJ, h0], mul_zero]
    · refine Finset.sum_congr rfl fun t _ => ?_
      have ht : t.val + 1 < 256 := by omega
      have e : (⟨t.val + 1, ht⟩ : Fin 256) = ⟨1 + t.val, by omega⟩ := Fin.ext (Nat.add_comm _ _)
      rw [mul_comm]
      congr 1
      simp only [gJ, h0, Fin.val_castSucc, ht, e]
      rfl

end

end Cert.Hand

end
-- ==== Proof.Final.lean ====
/-
  What the kernel's two result arrays hold after its run at the extended reals, over the contents of its argument arrays.
-/
module

public import proofs.«01_k».proof.Proof.IdealFrame
public import proofs.«01_k».proof.Proof.Equal
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline

variable (m : (ℓ : Loc nD τ sig) → Buf (Elt Ideal) ℓ)

/-- Every window's block index at the one point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0] ∧ win0_5.index t = ![0, 0, 0] ∧ win0_6.index t = ![0, 0, 0] :=
  (by decide +kernel : ∀ t : Fin grid0.N, _)

/-! The input blocks at the one point are the argument arrays; the weights' scales come as one row. -/
theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg1) := by
  blk_ext! [iblk, V, idx t0_0]
theorem iblk2 (c : Dev nD) : iblk m c 2 t0_0 = m ((c : Thread nD τ).loc main_arg2) := by
  blk_ext! [iblk, V, idx t0_0]
theorem iblk3 (c : Dev nD) : iblk m c 3 t0_0 = m ((c : Thread nD τ).loc main_arg3) := by
  blk_ext! [iblk, V, idx t0_0]
theorem iblk4 (c : Dev nD) : iblk m c 4 t0_0 = Cert.Hand.rowOf (m ((c : Thread nD τ).loc main_arg4)) := by
  funext y
  idx_vars y
  unfold Cert.Hand.rowOf
  blk_point [iblk, V, idx t0_0]

/-- The first result array: the gradient of the input. -/
theorem final5 (c : Dev nD) : (dats m 0 c).arrAt 5 cfg0.N
    = dxA (m ((c : Thread nD τ).loc main_arg1)) (m ((c : Thread nD τ).loc main_arg2))
        (wtA (m ((c : Thread nD τ).loc main_arg3)) (Cert.Hand.rowOf (m ((c : Thread nD τ).loc main_arg4)))) := by
  refine (dats m 0 c).arrAt_eq_of_after_last 5 t0_0 (by decide +kernel) _ fun j => ?_
  blk_simp
  rw [after0_5, iblk1, iblk2, iblk3, iblk4]
  blk_ext [idx t0_0]

/-- The second result array: the gradient of the weights. -/
theorem final6 (c : Dev nD) : (dats m 0 c).arrAt 6 cfg0.N
    = dwA (m ((c : Thread nD τ).loc main_arg0)) (m ((c : Thread nD τ).loc main_arg1))
        (m ((c : Thread nD τ).loc main_arg2)) := by
  refine (dats m 0 c).arrAt_eq_of_after_last 6 t0_0 (by decide +kernel) _ fun j => ?_
  blk_simp
  rw [after0_6, iblk0, iblk1, iblk2]
  blk_ext [idx t0_0]

/-- The run: the program ends with its two result arrays at the two gradients and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0)
        = dxA (m ((c : Thread nD τ).loc main_arg1)) (m ((c : Thread nD τ).loc main_arg2))
          (wtA (m ((c : Thread nD τ).loc main_arg3)) (Cert.Hand.rowOf (m ((c : Thread nD τ).loc main_arg4))))
      ∧ r.2.mem ((c.tc : Thread nD τ).loc main_v1_1)
        = dwA (m ((c : Thread nD τ).loc main_arg0)) (m ((c : Thread nD τ).loc main_arg1))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), h.2 c⟩)
    (θ_run_and ((θ_run defs _ _).mono (fun _ h => h.1) (run_main m ρ)) (unchanged m ρ))

end Cert.KernelIdeal.Hand

end
-- ==== Proof.RefFinal.lean ====
/-
  What the reference's two result arrays hold after its run at the extended reals.
-/
module

public import proofs.«01_k».proof.Proof.Gen.ReferenceIdeal.Frame
public import proofs.«01_k».proof.Proof.RefRead
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem
open Idealize.ShloMosaic.Pipeline

variable (m : (ℓ : Loc nD τ sig) → Buf (Elt Ideal) ℓ)

/-- Every window's block index at the one point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0] ∧ win0_5.index t = ![0, 0, 0] ∧ win0_6.index t = ![0, 0, 0] :=
  (by decide +kernel : ∀ t : Fin grid0.N, _)

/-! The input blocks at the one point are the argument arrays. -/
theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg1) := by
  blk_ext! [iblk, V, idx t0_0]
theorem iblk2 (c : Dev nD) : iblk m c 2 t0_0 = m ((c : Thread nD τ).loc main_arg2) := by
  blk_ext! [iblk, V, idx t0_0]
theorem iblk3 (c : Dev nD) : iblk m c 3 t0_0 = m ((c : Thread nD τ).loc main_arg3) := by
  blk_ext! [iblk, V, idx t0_0]
theorem iblk4 (c : Dev nD) : iblk m c 4 t0_0 = m ((c : Thread nD τ).loc main_arg4) := by
  blk_ext! [iblk, V, idx t0_0]

/-- The first result array: the gradient of the input, as the reference's lines compute it from the argument arrays. -/
theorem final5 (c : Dev nD) : (dats m 0 c).arrAt 5 cfg0.N
    = k0_pay2 (F := Ideal) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  rw [iblk1, iblk2, iblk3, iblk4]
  blk_ext [idx t0_0]

/-- The second result array: the gradient of the weights, as the reference's lines compute it. -/
theorem final6 (c : Dev nD) : (dats m 0 c).arrAt 6 cfg0.N
    = k0_pay3 (F := Ideal) (m ((c : Thread nD τ).loc main_arg0)) (m ((c : Thread nD τ).loc main_arg1))
        (m ((c : Thread nD τ).loc main_arg2)) := by
  refine (dats m 0 c).arrAt_eq_of_after_last 6 t0_0 (by decide +kernel) _ fun j => ?_
  blk_simp
  rw [after0_6]
  frame_out
  rw [iblk0, iblk1, iblk2]
  blk_ext [idx t0_0]

/-- The run: the program ends with its two result arrays at the two gradients and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0)
        = k0_pay2 (F := Ideal) (m ((c : Thread nD τ).loc main_arg1)) (m ((c : Thread nD τ).loc main_arg2))
          (m ((c : Thread nD τ).loc main_arg3)) (m ((c : Thread nD τ).loc main_arg4))
      ∧ r.2.mem ((c.tc : Thread nD τ).loc main_v0_1)
        = k0_pay3 (F := Ideal) (m ((c : Thread nD τ).loc main_arg0)) (m ((c : Thread nD τ).loc main_arg1))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), h.2 c⟩)
    (θ_run_and (run_main m ρ) (frame_of m ρ (dats m) (A_eq m) (run_main m ρ)))

end Cert.ReferenceIdeal.Hand

end
-- ==== Proof.lean ====
/-
  The proof of `Cert.Claim`: the three frames, the ideal program being the kernel over the extended reals, and the equality
  of the kernel's two results with the reference's. The modules imported here do the work; this one puts it together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.Final
public import proofs.«01_k».proof.Proof.RefFinal
public import proofs.«01_k».proof.Proof.Equal
public import Idealize.ShloMosaic.Adequacy
public import Idealize.ShloMosaic.Init

@[expose] public section

noncomputable section

namespace Cert.Proof

open Idealize.ShloMosaic Idealize.SL.Sem Cert.Kernel

open Idealize.ShloMosaic.TcCoe Idealize.ShloMosaic.Tactic

/-- Over the extended reals the kernel's two results, the gradient of the input and the gradient of the weights, are the
    reference's, whatever the arguments hold. -/
theorem algebraic : Cert.algebraic_KernelIdeal_ReferenceIdeal := by
  pair_intro
  · run_from Cert.KernelIdeal.Hand.run m g
  · run_from Cert.ReferenceIdeal.Hand.run m' g'
    · funext y
      idx_vars y
      exact (Cert.ReferenceIdeal.Hand.pay2_at _ _ _ _ _ _ _).trans (Cert.Hand.dx_eq _ _ _ _ _ _ _).symm
    · funext y
      idx_vars y
      exact (Cert.ReferenceIdeal.Hand.pay3_at _ _ _ _ _ _).trans (Cert.Hand.dw_eq _ _ _ _ _ _).symm

/-- Everything that is claimed. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
